-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "half_log_2pi_64" .f32 0x426B3F8E#32 ((32 * (Real.log (13176795 / 2097152)) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v4_4)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v4_4) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S16384x64 : Shape := ⟨2, ![16384, 64]⟩
abbrev S16384x10 : Shape := ⟨2, ![16384, 10]⟩
abbrev S_ : Shape := ⟨0, ![]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S10x256 : Shape := ⟨2, ![10, 256]⟩
abbrev S512x100 : Shape := ⟨2, ![512, 100]⟩
abbrev S100 : Shape := ⟨1, ![100]⟩
abbrev S100x256 : Shape := ⟨2, ![100, 256]⟩
abbrev S257x512 : Shape := ⟨2, ![257, 512]⟩
abbrev S512x512 : Shape := ⟨2, ![512, 512]⟩
abbrev S512x64 : Shape := ⟨2, ![512, 64]⟩
abbrev S64 : Shape := ⟨1, ![64]⟩

class Facts : Prop where
  bcast_S_S256x512 : S_.BroadcastsInDim S256x512 (![] : Fin 0 → Fin S256x512.rank)
  bcast_S_S512 : S_.BroadcastsInDim S512 (![] : Fin 0 → Fin S512.rank)
  bcast_S_S512x256 : S_.BroadcastsInDim S512x256 (![] : Fin 0 → Fin S512x256.rank)
  bcast_S_S256 : S_.BroadcastsInDim S256 (![] : Fin 0 → Fin S256.rank)
  bcast_S_S64 : S_.BroadcastsInDim S64 (![] : Fin 0 → Fin S64.rank)

variable [Facts]

def fn {F : FTy → Type} [FloatOps F] (main_arg0 : FVec F S16384x256 .f32) (main_arg1 : FVec F S16384x256 .f32) (main_arg2 : FVec F S16384x64 .f32) (main_arg3 : FVec F S16384x10 .f32) (main_arg4 : IVec S_ 32) (main_arg5 : FVec F S256x256 .f32) (main_arg6 : FVec F S256 .f32) (main_arg7 : FVec F S256x512 .f32) (main_arg8 : FVec F S512 .f32) (main_arg9 : FVec F S512x256 .f32) (main_arg10 : FVec F S256 .f32) (main_arg11 : FVec F S10x256 .f32) (main_arg12 : FVec F S256x512 .f32) (main_arg13 : FVec F S512 .f32) (main_arg14 : FVec F S512x100 .f32) (main_arg15 : FVec F S100 .f32) (main_arg16 : FVec F S100x256 .f32) (main_arg17 : FVec F S256 .f32) (main_arg18 : FVec F S257x512 .f32) (main_arg19 : FVec F S512 .f32) (main_arg20 : FVec F S512x512 .f32) (main_arg21 : FVec F S512 .f32) (main_arg22 : FVec F S512x512 .f32) (main_arg23 : FVec F S512 .f32) (main_arg24 : FVec F S512x64 .f32) (main_arg25 : FVec F S64 .f32) (main_arg26 : FVec F S64 .f32) : IVec S256x512 1 × IVec S512 1 × IVec S512x256 1 × IVec S256 1 × IVec S64 1 :=
  let main_v0 : FVec F S256x512 .f32 := Host.absf main_arg7
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512 .f32 := Host.absf main_arg8
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512x256 .f32 := Host.absf main_arg9
  let main_cst_1 : FVec F S_ .f32 := constant S_ .f32 0x7F800000#32
  let main_v7 : FVec F S512x256 .f32 := broadcastInDim S512x256 ![] bcast_S_S512x256 main_cst_1
  let main_v8 : IVec S512x256 1 := cmpf .olt main_v6 main_v7
  let main_v9 : FVec F S256 .f32 := Host.absf main_arg10
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S64 .f32 := Host.absf main_arg26
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S16384x256 : Shape := ⟨2, ![16384, 256]⟩
abbrev S16384x64 : Shape := ⟨2, ![16384, 64]⟩
abbrev S16384x10 : Shape := ⟨2, ![16384, 10]⟩
abbrev S_ : Shape := ⟨0, ![]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S10x256 : Shape := ⟨2, ![10, 256]⟩
abbrev S512x100 : Shape := ⟨2, ![512, 100]⟩
abbrev S100 : Shape := ⟨1, ![100]⟩
abbrev S100x256 : Shape := ⟨2, ![100, 256]⟩
abbrev S257x512 : Shape := ⟨2, ![257, 512]⟩
abbrev S512x512 : Shape := ⟨2, ![512, 512]⟩
abbrev S512x64 : Shape := ⟨2, ![512, 64]⟩
abbrev S64 : Shape := ⟨1, ![64]⟩
abbrev S256x10 : Shape := ⟨2, ![256, 10]⟩
abbrev S10 : Shape := ⟨1, ![10]⟩
abbrev S1x10 : Shape := ⟨2, ![1, 10]⟩
abbrev S16384x1 : Shape := ⟨2, ![16384, 1]⟩
abbrev S8x1x128 : Shape := ⟨3, ![8, 1, 128]⟩
abbrev S2048x256 : Shape := ⟨2, ![2048, 256]⟩
abbrev S2048x64 : Shape := ⟨2, ![2048, 64]⟩
abbrev S2048x1 : Shape := ⟨2, ![2048, 1]⟩
abbrev S1x1x128 : Shape := ⟨3, ![1, 1, 128]⟩
abbrev S1x256 : Shape := ⟨2, ![1, 256]⟩
abbrev S2048x512 : Shape := ⟨2, ![2048, 512]⟩
abbrev S1x512 : Shape := ⟨2, ![1, 512]⟩
abbrev S2048x10 : Shape := ⟨2, ![2048, 10]⟩
abbrev S2048 : Shape := ⟨1, ![2048]⟩
abbrev S2048x100 : Shape := ⟨2, ![2048, 100]⟩
abbrev S1x100 : Shape := ⟨2, ![1, 100]⟩
abbrev S1x64 : Shape := ⟨2, ![1, 64]⟩
abbrev S1 : Shape := ⟨1, ![1]⟩
abbrev S1x1 : Shape := ⟨2, ![1, 1]⟩
abbrev S64x1 : Shape := ⟨2, ![64, 1]⟩
abbrev S1x2048 : Shape := ⟨2, ![1, 2048]⟩
abbrev S1x1x256 : Shape := ⟨3, ![1, 1, 256]⟩
abbrev S1x1x1 : Shape := ⟨3, ![1, 1, 1]⟩
abbrev S128x128 : Shape := ⟨2, ![128, 128]⟩
abbrev S1x128 : Shape := ⟨2, ![1, 128]⟩
abbrev S1x8x1x128 : Shape := ⟨4, ![1, 8, 1, 128]⟩
abbrev S1x1x1x1 : Shape := ⟨4, ![1, 1, 1, 1]⟩
abbrev S16384 : Shape := ⟨1, ![16384]⟩

abbrev nBuf : Space → Nat
  | .hbm => 45
  | .vmem => 45
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x64, .f32⟩
  | .hbm, ⟨3, _⟩ => ⟨S16384x10, .f32⟩
  | .hbm, ⟨4, _⟩ => ⟨S_, .i32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S10x256, .f32⟩
  | .hbm, ⟨12, _⟩ => ⟨S256x512, .f32⟩
  | .hbm, ⟨13, _⟩ => ⟨S512, .f32⟩
  | .hbm, ⟨14, _⟩ => ⟨S512x100, .f32⟩
  | .hbm, ⟨15, _⟩ => ⟨S100, .f32⟩
  | .hbm, ⟨16, _⟩ => ⟨S100x256, .f32⟩
  | .hbm, ⟨17, _⟩ => ⟨S256, .f32⟩
  | .hbm, ⟨18, _⟩ => ⟨S257x512, .f32⟩
  | .hbm, ⟨19, _⟩ => ⟨S512, .f32⟩
  | .hbm, ⟨20, _⟩ => ⟨S512x512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S512x64, .f32⟩
  | .hbm, ⟨25, _⟩ => ⟨S64, .f32⟩
  | .hbm, ⟨26, _⟩ => ⟨S64, .f32⟩
  | .hbm, ⟨27, _⟩ => ⟨S256x10, .f32⟩
  | .hbm, ⟨28, _⟩ => ⟨S10x256, .f32⟩
  | .hbm, ⟨29, _⟩ => ⟨S_, .f32⟩
  | .hbm, ⟨30, _⟩ => ⟨S10, .f32⟩
  | .hbm, ⟨31, _⟩ => ⟨S1x10, .f32⟩
  | .hbm, ⟨32, _⟩ => ⟨S16384x1, .f32⟩
  | .hbm, ⟨33, _⟩ => ⟨S16384x1, .i32⟩
  | .hbm, ⟨34, _⟩ => ⟨S8x1x128, .f32⟩
  | .hbm, ⟨35, _⟩ => ⟨S8x1x128, .f32⟩
  | .hbm, ⟨36, _⟩ => ⟨S16384x256, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S16384, .f32⟩
  | .hbm, ⟨41, _⟩ => ⟨S16384, .f32⟩
  | .hbm, ⟨42, _⟩ => ⟨S16384, .i32⟩
  | .hbm, ⟨43, _⟩ => ⟨S1x1, .f32⟩
  | .hbm, ⟨44, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x64, .f32⟩
  | .local _ .vmem, ⟨5, _⟩ => ⟨S2048x64, .f32⟩
  | .local _ .vmem, ⟨6, _⟩ => ⟨S256x256, .f32⟩
  | .local _ .vmem, ⟨7, _⟩ => ⟨S256, .f32⟩
  | .local _ .vmem, ⟨8, _⟩ => ⟨S256x512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256x10, .f32⟩
  | .local _ .vmem, ⟨13, _⟩ => ⟨S10x256, .f32⟩
  | .local _ .vmem, ⟨14, _⟩ => ⟨S1x10, .f32⟩
  | .local _ .vmem, ⟨15, _⟩ => ⟨S256x512, .f32⟩
  | .local _ .vmem, ⟨16, _⟩ => ⟨S512, .f32⟩
  | .local _ .vmem, ⟨17, _⟩ => ⟨S512x100, .f32⟩
  | .local _ .vmem, ⟨18, _⟩ => ⟨S100, .f32⟩
  | .local _ .vmem, ⟨19, _⟩ => ⟨S100x256, .f32⟩
  | .local _ .vmem, ⟨20, _⟩ => ⟨S256, .f32⟩
  | .local _ .vmem, ⟨21, _⟩ => ⟨S257x512, .f32⟩
  | .local _ .vmem, ⟨22, _⟩ => ⟨S512, .f32⟩
  | .local _ .vmem, ⟨23, _⟩ => ⟨S512x512, .f32⟩
  | .local _ .vmem, ⟨24, _⟩ => ⟨S512, .f32⟩
  | .local _ .vmem, ⟨25, _⟩ => ⟨S512x512, .f32⟩
  | .local _ .vmem, ⟨26, _⟩ => ⟨S512, .f32⟩
  | .local _ .vmem, ⟨27, _⟩ => ⟨S512x64, .f32⟩
  | .local _ .vmem, ⟨28, _⟩ => ⟨S64, .f32⟩
  | .local _ .vmem, ⟨29, _⟩ => ⟨S64, .f32⟩
  | .local _ .vmem, ⟨30, _⟩ => ⟨S2048x1, .f32⟩
  | .local _ .vmem, ⟨31, _⟩ => ⟨S2048x1, .f32⟩
  | .local _ .vmem, ⟨32, _⟩ => ⟨S2048x1, .i32⟩
  | .local _ .vmem, ⟨33, _⟩ => ⟨S2048x1, .i32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S2048x256, .f32⟩
  | .local _ .vmem, ⟨39, _⟩ => ⟨S2048x256, .f32⟩
  | .local _ .vmem, ⟨40, _⟩ => ⟨S128x128, .f32⟩
  | .local _ .vmem, ⟨41, _⟩ => ⟨S8x1x128, .f32⟩
  | .local _ .vmem, ⟨42, _⟩ => ⟨S8x1x128, .f32⟩
  | .local _ .vmem, ⟨43, _⟩ => ⟨S128x128, .f32⟩
  | .local _ .vmem, ⟨44, _⟩ => ⟨S1x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4_0 : Ref sig .tc := ⟨.hbm, 32, rfl⟩
abbrev main_v4_1 : Ref sig .tc := ⟨.hbm, 33, rfl⟩
abbrev main_v4_2 : Ref sig .tc := ⟨.hbm, 34, rfl⟩
abbrev main_v4_3 : Ref sig .tc := ⟨.hbm, 35, rfl⟩
abbrev main_v4_4 : Ref sig .tc := ⟨.hbm, 36, rfl⟩
abbrev main_v5 : Ref sig .tc := ⟨.hbm, 37, rfl⟩
abbrev main_v6_0 : Ref sig .tc := ⟨.hbm, 38, rfl⟩
abbrev main_v6_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg27_1 : Ref sig .tc := ⟨.vmem, 31, rfl⟩
abbrev cc0_stg28_0 : Ref sig .tc := ⟨.vmem, 32, rfl⟩
abbrev cc0_stg28_1 : Ref sig .tc := ⟨.vmem, 33, rfl⟩
abbrev cc0_stg29_0 : Ref sig .tc := ⟨.vmem, 34, rfl⟩
abbrev cc0_stg29_1 : Ref sig .tc := ⟨.vmem, 35, rfl⟩
abbrev cc0_stg30_0 : Ref sig .tc := ⟨.vmem, 36, rfl⟩
abbrev cc0_stg30_1 : Ref sig .tc := ⟨.vmem, 37, rfl⟩
abbrev cc0_stg31_0 : Ref sig .tc := ⟨.vmem, 38, rfl⟩
abbrev cc0_stg31_1 : Ref sig .tc := ⟨.vmem, 39, rfl⟩
abbrev cc1_stg0_0 : Ref sig .tc := ⟨.vmem, 40, rfl⟩
abbrev cc1_stg1_0 : Ref sig .tc := ⟨.vmem, 41, rfl⟩
abbrev cc1_stg2_0 : Ref sig .tc := ⟨.vmem, 42, rfl⟩
abbrev cc1_stg3_0 : Ref sig .tc := ⟨.vmem, 43, rfl⟩
abbrev cc1_stg4_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem27_1 : DmaSem sig := 31
abbrev cc0_sem28_0 : DmaSem sig := 32
abbrev cc0_sem28_1 : DmaSem sig := 33
abbrev cc0_sem29_0 : DmaSem sig := 34
abbrev cc0_sem29_1 : DmaSem sig := 35
abbrev cc0_sem30_0 : DmaSem sig := 36
abbrev cc0_sem30_1 : DmaSem sig := 37
abbrev cc0_sem31_0 : DmaSem sig := 38
abbrev cc0_sem31_1 : DmaSem sig := 39
abbrev cc1_sem0_0 : DmaSem sig := 40
abbrev cc1_sem1_0 : DmaSem sig := 41
abbrev cc1_sem2_0 : DmaSem sig := 42
abbrev cc1_sem3_0 : DmaSem sig := 43
abbrev cc1_sem4_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S100x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S257x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S2048x1 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2048x1 .i32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S2048x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "half_log_2pi_64" => some ((32 * (Real.log (13176795 / 2097152)) : ℝ) : EReal)
  | _ => none
-- ==== ReferenceIdeal.lean ====
abbrev S16384x256 : Shape := ⟨2, ![16384, 256]⟩
abbrev S16384x64 : Shape := ⟨2, ![16384, 64]⟩
abbrev S16384x10 : Shape := ⟨2, ![16384, 10]⟩
abbrev S_ : Shape := ⟨0, ![]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S10x256 : Shape := ⟨2, ![10, 256]⟩
abbrev S512x100 : Shape := ⟨2, ![512, 100]⟩
abbrev S100 : Shape := ⟨1, ![100]⟩
abbrev S100x256 : Shape := ⟨2, ![100, 256]⟩
abbrev S257x512 : Shape := ⟨2, ![257, 512]⟩
abbrev S512x512 : Shape := ⟨2, ![512, 512]⟩
abbrev S512x64 : Shape := ⟨2, ![512, 64]⟩
abbrev S64 : Shape := ⟨1, ![64]⟩
abbrev S1x256 : Shape := ⟨2, ![1, 256]⟩
abbrev S16384x512 : Shape := ⟨2, ![16384, 512]⟩
abbrev S1x512 : Shape := ⟨2, ![1, 512]⟩
abbrev S16384 : Shape := ⟨1, ![16384]⟩
abbrev S16384x1 : Shape := ⟨2, ![16384, 1]⟩
abbrev S10 : Shape := ⟨1, ![10]⟩
abbrev S1x10 : Shape := ⟨2, ![1, 10]⟩
abbrev S256x10 : Shape := ⟨2, ![256, 10]⟩
abbrev S1 : Shape := ⟨1, ![1]⟩
abbrev S1x1 : Shape := ⟨2, ![1, 1]⟩
abbrev S16384x100 : Shape := ⟨2, ![16384, 100]⟩
abbrev S1x100 : Shape := ⟨2, ![1, 100]⟩
abbrev S16384x257 : Shape := ⟨2, ![16384, 257]⟩
abbrev S1x64 : Shape := ⟨2, ![1, 64]⟩

abbrev nBuf : Space → Nat
  | .hbm => 181
  | .vmem => 0
  | .smem => 0
  | _ => 0

abbrev hbmTy0_0 (i : Nat) : BufTy := match i % 128 with
  | 0 => ⟨S16384x256, .f32⟩
  | 1 => ⟨S16384x256, .f32⟩
  | 2 => ⟨S16384x64, .f32⟩
  | 3 => ⟨S16384x10, .f32⟩
  | 4 => ⟨S_, .i32⟩
  | 5 => ⟨S256x256, .f32⟩
  | 6 => ⟨S256, .f32⟩
  | 7 => ⟨S256x512, .f32⟩
  | 8 => ⟨S512, .f32⟩
  | 9 => ⟨S512x256, .f32⟩
  | 10 => ⟨S256, .f32⟩
  | 11 => ⟨S10x256, .f32⟩
  | 12 => ⟨S256x512, .f32⟩
  | 13 => ⟨S512, .f32⟩
  | 14 => ⟨S512x100, .f32⟩
  | 15 => ⟨S100, .f32⟩
  | 16 => ⟨S100x256, .f32⟩
  | 17 => ⟨S256, .f32⟩
  | 18 => ⟨S257x512, .f32⟩
  | 19 => ⟨S512, .f32⟩
  | 20 => ⟨S512x512, .f32⟩
  | 21 => ⟨S512, .f32⟩
  | 22 => ⟨S512x512, .f32⟩
  | 23 => ⟨S512, .f32⟩
  | 24 => ⟨S512x64, .f32⟩
  | 25 => ⟨S64, .f32⟩
  | 26 => ⟨S64, .f32⟩
  | 27 => ⟨S16384x256, .f32⟩
  | 28 => ⟨S1x256, .f32⟩
  | 29 => ⟨S16384x256, .f32⟩
  | 30 => ⟨S16384x256, .f32⟩
  | 31 => ⟨S16384x256, .f32⟩
  | 32 => ⟨S16384x512, .f32⟩
  | 33 => ⟨S1x512, .f32⟩
  | 34 => ⟨S16384x512, .f32⟩
  | 35 => ⟨S16384x512, .f32⟩
  | 36 => ⟨S16384x256, .f32⟩
  | 37 => ⟨S1x256, .f32⟩
  | 38 => ⟨S16384x256, .f32⟩
  | 39 => ⟨S16384x256, .f32⟩
  | 40 => ⟨S16384x256, .f32⟩
  | 41 => ⟨S_, .f32⟩
  | 42 => ⟨S16384, .f32⟩
  | 43 => ⟨S16384x1, .f32⟩
  | 44 => ⟨S10x256, .f32⟩
  | 45 => ⟨S_, .f32⟩
  | 46 => ⟨S10, .f32⟩
  | 47 => ⟨S1x10, .f32⟩
  | 48 => ⟨S16384x10, .f32⟩
  | 49 => ⟨S16384x10, .f32⟩
  | 50 => ⟨S16384x10, .f32⟩
  | 51 => ⟨S256x10, .f32⟩
  | 52 => ⟨S16384x10, .f32⟩
  | 53 => ⟨S_, .f32⟩
  | 54 => ⟨S16384x10, .f32⟩
  | 55 => ⟨S16384x10, .f32⟩
  | 56 => ⟨S16384x10, .f32⟩
  | 57 => ⟨S16384x10, .i32⟩
  | 58 => ⟨S_, .f32⟩
  | 59 => ⟨S_, .i32⟩
  | 60 => ⟨S16384, .f32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S1, .i32⟩
  | 71 => ⟨S_, .i32⟩
  | 72 => ⟨S16384x1, .i32⟩
  | 73 => ⟨S16384x1, .i1⟩
  | 74 => ⟨S1x1, .i32⟩
  | 75 => ⟨S16384x1, .i32⟩
  | 76 => ⟨S16384x1, .i1⟩
  | 77 => ⟨S16384x1, .i1⟩
  | 78 => ⟨S_, .i1⟩
  | 79 => ⟨S16384, .i1⟩
  | 80 => ⟨S16384x256, .f32⟩
  | 81 => ⟨S16384x256, .i1⟩
  | 82 => ⟨S_, .f32⟩
  | 83 => ⟨S16384x256, .f32⟩
  | 84 => ⟨S16384x256, .f32⟩
  | 85 => ⟨S16384x256, .f32⟩
  | 86 => ⟨S16384x256, .f32⟩
  | 87 => ⟨S16384x512, .f32⟩
  | 88 => ⟨S1x512, .f32⟩
  | 89 => ⟨S16384x512, .f32⟩
  | 90 => ⟨S16384x512, .f32⟩
  | 91 => ⟨S16384x100, .f32⟩
  | 92 => ⟨S1x100, .f32⟩
  | 93 => ⟨S16384x100, .f32⟩
  | 94 => ⟨S16384x100, .f32⟩
  | 95 => ⟨S16384x100, .f32⟩
  | 96 => ⟨S16384x256, .f32⟩
  | 97 => ⟨S1x256, .f32⟩
  | 98 => ⟨S16384x256, .f32⟩
  | 99 => ⟨S16384x256, .f32⟩
  | 100 => ⟨S16384x256, .f32⟩
  | 101 => ⟨S16384x1, .i32⟩
  | 102 => ⟨S16384x1, .f32⟩
  | 103 => ⟨S16384x257, .f32⟩
  | 104 => ⟨S16384x512, .f32⟩
  | 105 => ⟨S1x512, .f32⟩
  | 106 => ⟨S16384x512, .f32⟩
  | 107 => ⟨S16384x512, .f32⟩
  | 108 => ⟨S_, .f32⟩
  | 109 => ⟨S16384x512, .f32⟩
  | 110 => ⟨S16384x512, .f32⟩
  | 111 => ⟨S16384x512, .f32⟩
  | 112 => ⟨S1x512, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S16384x512, .f32⟩
  | 119 => ⟨S1x512, .f32⟩
  | 120 => ⟨S16384x512, .f32⟩
  | 121 => ⟨S16384x512, .f32⟩
  | 122 => ⟨S_, .f32⟩
  | 123 => ⟨S16384x512, .f32⟩
  | 124 => ⟨S16384x512, .f32⟩
  | 125 => ⟨S16384x512, .f32⟩
  | 126 => ⟨S16384x64, .f32⟩
  | 127 => ⟨S1x64, .f32⟩
  | _ => ⟨S16384x256, .f32⟩

abbrev hbmTy0_1 (i : Nat) : BufTy := match i % 128 with
  | 0 => ⟨S16384x64, .f32⟩
  | 1 => ⟨S16384x64, .f32⟩
  | 2 => ⟨S64, .f32⟩
  | 3 => ⟨S16384x64, .f32⟩
  | 4 => ⟨S1x64, .f32⟩
  | 5 => ⟨S16384x64, .f32⟩
  | 6 => ⟨S16384x64, .f32⟩
  | 7 => ⟨S16384x64, .f32⟩
  | 8 => ⟨S_, .f32⟩
  | 9 => ⟨S16384x64, .f32⟩
  | 10 => ⟨S16384x64, .f32⟩
  | 11 => ⟨S1x64, .f32⟩
  | 12 => ⟨S16384x64, .f32⟩
  | 13 => ⟨S16384x64, .f32⟩
  | 14 => ⟨S_, .f32⟩
  | 15 => ⟨S_, .f32⟩
  | 16 => ⟨S_, .f32⟩
  | 17 => ⟨S_, .f32⟩
  | 18 => ⟨S_, .f32⟩
  | 19 => ⟨S16384x64, .f32⟩
  | 20 => ⟨S16384x64, .f32⟩
  | 21 => ⟨S_, .f32⟩
  | 22 => ⟨S16384, .f32⟩
  | 23 => ⟨S16384, .f32⟩
  | 24 => ⟨S_, .f32⟩
  | 25 => ⟨S16384, .f32⟩
  | 26 => ⟨S16384, .f32⟩
  | 27 => ⟨S16384x256, .f32⟩
  | 28 => ⟨S16384x256, .f32⟩
  | 29 => ⟨S_, .f32⟩
  | 30 => ⟨S_, .f32⟩
  | 31 => ⟨S_, .f32⟩
  | 32 => ⟨S_, .f32⟩
  | 33 => ⟨S16384x256, .f32⟩
  | 34 => ⟨S16384x256, .f32⟩
  | 35 => ⟨S_, .f32⟩
  | 36 => ⟨S_, .f32⟩
  | 37 => ⟨S_, .f32⟩
  | 38 => ⟨S_, .f32⟩
  | 39 => ⟨S16384x256, .f32⟩
  | 40 => ⟨S16384x256, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S16384, .f32⟩
  | 52 => ⟨S16384, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_1 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call0_v0 : Ref sig .tc := ⟨.hbm, 57, rfl⟩
abbrev main_call0_cst : Ref sig .tc := ⟨.hbm, 58, rfl⟩
abbrev main_call0_c : Ref sig .tc := ⟨.hbm, 59, rfl⟩
abbrev main_call0_v1_0 : Ref sig .tc := ⟨.hbm, 60, rfl⟩
abbrev main_v27 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_call2_cst : Ref sig .tc := ⟨.hbm, 108, rfl⟩
abbrev main_call2_v0 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_call3_cst : Ref sig .tc := ⟨.hbm, 115, rfl⟩
abbrev main_call3_v0 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_call4_cst : Ref sig .tc := ⟨.hbm, 122, rfl⟩
abbrev main_call4_v0 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_2 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_cst_3 : Ref sig .tc := ⟨.hbm, 142, rfl⟩
abbrev main_v79 : Ref sig .tc := ⟨.hbm, 143, rfl⟩
abbrev main_cst_4 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_5 : Ref sig .tc := ⟨.hbm, 149, rfl⟩
abbrev main_v84 : Ref sig .tc := ⟨.hbm, 150, rfl⟩
abbrev main_v85 : Ref sig .tc := ⟨.hbm, 151, rfl⟩
abbrev main_cst_6 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_7 : Ref sig .tc := ⟨.hbm, 157, rfl⟩
abbrev main_v90 : Ref sig .tc := ⟨.hbm, 158, rfl⟩
abbrev main_cst_8 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_9 : Ref sig .tc := ⟨.hbm, 163, rfl⟩
abbrev main_v94 : Ref sig .tc := ⟨.hbm, 164, rfl⟩
abbrev main_cst_10 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_11 : Ref sig .tc := ⟨.hbm, 169, rfl⟩
abbrev main_v98 : Ref sig .tc := ⟨.hbm, 170, rfl⟩
abbrev main_cst_12 : Ref sig .tc := ⟨.hbm, 171, rfl⟩
abbrev main_v99 : Ref sig .tc := ⟨.hbm, 172, rfl⟩
abbrev main_v100 : Ref sig .tc := ⟨.hbm, 173, rfl⟩
abbrev main_cst_13 : Ref sig .tc := ⟨.hbm, 174, rfl⟩
abbrev main_v101 : Ref sig .tc := ⟨.hbm, 175, rfl⟩
abbrev main_v102 : Ref sig .tc := ⟨.hbm, 176, rfl⟩
abbrev main_cst_14 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩

abbrev nD : Nat := 1
abbrev τ : Topo := Topo.v7x

variable {F : FTy → Type} [FloatOps F]
-- ==== Proof.KernelIdeal.Body.lean ====
/-
  The two kernel calls of the program `KernelIdeal`, each at any contents of the buffers at its entry: what a grid point leaves in
  every window, and the body's obligation. Taken over from the generated frame certificate, with a larger budget at the
  first call's two statements about all of its 32 windows.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__memo_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)
theorem before0_24_of {c : Dev nD} (dat : Dat τ (Elt F) Unit ℕ (UR sig nD τ) ℕ cfg0 c) (hA : dat.A 24 = V c (Pipeline.arrRef spec0 24))
    (hafter : ∀ t, dat.after 24 t = iblk0 V c 24 t) (t : Fin cfg0.N) (d) : dat.before 24 t d = iblk0 V c 24 t :=
  (dat.before_in_eq_fetched 24 rfl (fun _ => rfl) (fun _ _ _ => rfl) (fun t => by rw [hafter]; unfold Dat.blockOf iblk0; rw [hA]; try rfl) t d).trans
    (by unfold Dat.fetched Dat.blockOf iblk0; rw [hA]; try rfl)
theorem before0_25_of {c : Dev nD} (dat : Dat τ (Elt F) Unit ℕ (UR sig nD τ) ℕ cfg0 c) (hA : dat.A 25 = V c (Pipeline.arrRef spec0 25))
    (hafter : ∀ t, dat.after 25 t = iblk0 V c 25 t) (t : Fin cfg0.N) (d) : dat.before 25 t d = iblk0 V c 25 t :=
  (dat.before_in_eq_fetched 25 rfl (fun _ => rfl) (fun _ _ _ => rfl) (fun t => by rw [hafter]; unfold Dat.blockOf iblk0; rw [hA]; try rfl) t d).trans
    (by unfold Dat.fetched Dat.blockOf iblk0; rw [hA]; try rfl)
theorem before0_26_of {c : Dev nD} (dat : Dat τ (Elt F) Unit ℕ (UR sig nD τ) ℕ cfg0 c) (hA : dat.A 26 = V c (Pipeline.arrRef spec0 26))
    (hafter : ∀ t, dat.after 26 t = iblk0 V c 26 t) (t : Fin cfg0.N) (d) : dat.before 26 t d = iblk0 V c 26 t :=
  (dat.before_in_eq_fetched 26 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S256x512 := Rect.unit (s := S256x512) ![0, 0] S256x512.size inb_S256x512_S256x512_0_0
abbrev r0_4 : Rect S512 := Rect.unit (s := S512) ![0] S512.size inb_S512_S512_0
abbrev r0_5 : Rect S512x256 := Rect.unit (s := S512x256) ![0, 0] S512x256.size inb_S512x256_S512x256_0_0
abbrev r0_6 : Rect S1x10 := Rect.unit (s := S1x10) ![0, 0] S1x10.size inb_S1x10_S1x10_0_0
abbrev r0_7 : Rect S256x10 := Rect.unit (s := S256x10) ![0, 0] S256x10.size inb_S256x10_S256x10_0_0
abbrev r0_8 : Rect S10x256 := Rect.unit (s := S10x256) ![0, 0] S10x256.size inb_S10x256_S10x256_0_0
abbrev r0_9 : Rect S512x100 := Rect.unit (s := S512x100) ![0, 0] S512x100.size inb_S512x100_S512x100_0_0
abbrev r0_10 : Rect S100 := Rect.unit (s := S100) ![0] S100.size inb_S100_S100_0
abbrev r0_11 : Rect S100x256 := Rect.unit (s := S100x256) ![0, 0] S100x256.size inb_S100x256_S100x256_0_0
abbrev r0_12 : Rect S257x512 := Rect.unit (s := S257x512) ![0, 0] S256x512.size inb_S257x512_S256x512_0_0
abbrev r0_13 : Rect S257x512 := Rect.unit (s := S257x512) ![256, 0] S1x512.size inb_S257x512_S1x512_256_0
abbrev r0_14 : Rect S512x512 := Rect.unit (s := S512x512) ![0, 0] S512x512.size inb_S512x512_S512x512_0_0
abbrev r0_15 : Rect S512x64 := Rect.unit (s := S512x64) ![0, 0] S512x64.size inb_S512x64_S512x64_0_0
abbrev r0_16 : Rect S64 := Rect.unit (s := S64) ![0] S64.size inb_S64_S64_0
abbrev r0_17 : Rect S2048x64 := Rect.unit (s := S2048x64) ![0, 0] S2048x64.size inb_S2048x64_S2048x64_0_0
abbrev r0_18 : Rect S2048x1 := Rect.unit (s := S2048x1) ![0, 0] S2048x1.size inb_S2048x1_S2048x1_0_0
abbrev r0_19 : Rect S1x1x128 := Rect.unit (s := S1x1x128) ![0, 0, 0] S1x1x128.size inb_S1x1x128_S1x1x128_0_0_0

/-! ## What the body leaves in each output window's buffer -/

/-! ### Values of the body that the stores' payloads, spelt out, would write more than once

    Each is a vector the body binds (often a part call's result), stated over the input windows' blocks and
    numbered on from the skeleton's payload functions (`k0_pay17` …, after `k0_pay16`), so that
    `out0_W` and the values after it name it instead of spelling it out (`unfold_out out0_W` opens a canon
    with them, `unfold_payloads` opens them with the payloads); the comment after each is the printed function's
    name for the value (a count appended where that name is bound again). -/

def k0_pay17 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : FVec F S2048x10 .f32 :=
  k0_pay3 (View.ld x1 r0_0) (View.ld x3 r0_1) (View.ld x4 r0_2) (View.ld x5 r0_3) (View.ld x6 r0_4) (View.ld x7 r0_5) (View.ld x8 r0_2) (View.ld x11 r0_6) (View.ld x9 r0_7) -- `v30`
def k0_pay18 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : FVec F S2048x1 .f32 :=
  k0_pay4 (View.ld x1 r0_0) (View.ld x3 r0_1) (View.ld x4 r0_2) (View.ld x5 r0_3) (View.ld x6 r0_4) (View.ld x7 r0_5) (View.ld x8 r0_2) (View.ld x11 r0_6) (View.ld x9 r0_7) -- `v32`

/-- Window 27's staging buffer after the body, from the input windows' blocks: its 1 store as pieces, LAST
    FIRST (Lib/Pipeline/FrameBody.lean `View.canon`; the payloads are the skeleton's and the values stated above). -/
def out0_27 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : Vec F S2048x1 .f32 :=
  View.canon [⟨r0_18, k0_pay12 (View.ld x26 r0_16) (k0_pay10 (k0_pay8 (View.ld x0 r0_0) (View.ld x18 r0_12)) (View.ld x18 r0_13) (k0_pay9 (k0_pay17 x0 x1 x2 x3 x4 x5 x6 x7 x8 x9 x10 x11 x12 x13 x14 x15 x16 x17 x18 x19 x20 x21 x22 x23 x24 x25 x26) (k0_pay18 x0 x1 x2 x3 x4 x5 x6 x7 x8 x9 x10 x11 x12 x13 x14 x15 x16 x17 x18 x19 x20 x21 x22 x23 x24 x25 x26)) (View.ld x19 r0_4) (View.ld x20 r0_14) (View.ld x21 r0_4) (View.ld x22 r0_14) (View.ld x23 r0_4) (View.ld x24 r0_15) (View.ld x25 r0_16) (View.ld x2 r0_17)) (k0_pay11 (View.ld x26 r0_16))⟩]

/-- Its stores tile the buffer (checked by evaluation), so they cover it. -/
theorem cover0_27 (p0 : Vec F S2048x1 .f32) (y : S2048x1.Idx) :
    ∃ pc ∈ ([⟨r0_18, p0⟩] : List (View.Piece (Elt F) S2048x1 .f32)), y ∈ pc.1.set :=
  View.cover_of_tiled [⟨r0_18, p0⟩] S2048x1.size (by rfl) y

/-- Window 28's staging buffer after the body, from the input windows' blocks: its 1 store as pieces, LAST
    FIRST (Lib/Pipeline/FrameBody.lean `View.canon`; the payloads are the skeleton's and the values stated above). -/
def out0_28 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : Vec F S2048x1 .i32 :=
  View.canon [⟨r0_18, k0_pay5 (k0_pay17 x0 x1 x2 x3 x4 x5 x6 x7 x8 x9 x10 x11 x12 x13 x14 x15 x16 x17 x18 x19 x20 x21 x22 x23 x24 x25 x26) (k0_pay18 x0 x1 x2 x3 x4 x5 x6 x7 x8 x9 x10 x11 x12 x13 x14 x15 x16 x17 x18 x19 x20 x21 x22 x23 x24 x25 x26)⟩]

/-- Its stores tile the buffer (checked by evaluation), so they cover it. -/
theorem cover0_28 (p0 : Vec F S2048x1 .i32) (y : S2048x1.Idx) :
    ∃ pc ∈ ([⟨r0_18, p0⟩] : List (View.Piece (Elt F) S2048x1 .i32)), y ∈ pc.1.set :=
  View.cover_of_tiled [⟨r0_18, p0⟩] S2048x1.size (by rfl) y

/-- Window 29's staging buffer after the body, from the input windows' blocks: its 1 store as pieces, LAST
    FIRST (Lib/Pipeline/FrameBody.lean `View.canon`; the payloads are the skeleton's and the values stated above). -/
def out0_29 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : Vec F S1x1x128 .f32 :=
  View.canon [⟨r0_19, k0_pay14 (View.ld x1 r0_0) (k0_pay7 (k0_pay17 x0 x1 x2 x3 x4 x5 x6 x7 x8 x9 x10 x11 x12 x13 x14 x15 x16 x17 x18 x19 x20 x21 x22 x23 x24 x25 x26) (k0_pay18 x0 x1 x2 x3 x4 x5 x6 x7 x8 x9 x10 x11 x12 x13 x14 x15 x16 x17 x18 x19 x20 x21 x22 x23 x24 x25 x26) (View.ld x10 r0_8) (View.ld x12 r0_3) (View.ld x13 r0_4) (View.ld x14 r0_9) (View.ld x15 r0_10) (View.ld x16 r0_11) (View.ld x17 r0_2))⟩]

/-- Its stores tile the buffer (checked by evaluation), so they cover it. -/
theorem cover0_29 (p0 : Vec F S1x1x128 .f32) (y : S1x1x128.Idx) :
    ∃ pc ∈ ([⟨r0_19, p0⟩] : List (View.Piece (Elt F) S1x1x128 .f32)), y ∈ pc.1.set :=
  View.cover_of_tiled [⟨r0_19, p0⟩] S1x1x128.size (by rfl) y

/-- Window 30's staging buffer after the body, from the input windows' blocks: its 1 store as pieces, LAST
    FIRST (Lib/Pipeline/FrameBody.lean `View.canon`; the payloads are the skeleton's and the values stated above). -/
def out0_30 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : Vec F S1x1x128 .f32 :=
  View.canon [⟨r0_19, k0_pay1 (k0_pay15 (F := F)) (k0_pay16 (k0_pay2 (View.ld x1 r0_0) (View.ld x3 r0_1) (View.ld x4 r0_2) (View.ld x5 r0_3) (View.ld x6 r0_4) (View.ld x7 r0_5) (View.ld x8 r0_2)) (k0_pay6 (k0_pay17 x0 x1 x2 x3 x4 x5 x6 x7 x8 x9 x10 x11 x12 x13 x14 x15 x16 x17 x18 x19 x20 x21 x22 x23 x24 x25 x26) (k0_pay18 x0 x1 x2 x3 x4 x5 x6 x7 x8 x9 x10 x11 x12 x13 x14 x15 x16 x17 x18 x19 x20 x21 x22 x23 x24 x25 x26) (View.ld x10 r0_8)))⟩]

/-- Its stores tile the buffer (checked by evaluation), so they cover it. -/
theorem cover0_30 (p0 : Vec F S1x1x128 .f32) (y : S1x1x128.Idx) :
    ∃ pc ∈ ([⟨r0_19, p0⟩] : List (View.Piece (Elt F) S1x1x128 .f32)), y ∈ pc.1.set :=
  View.cover_of_tiled [⟨r0_19, p0⟩] S1x1x128.size (by rfl) y

/-- Window 31's staging buffer after the body, from the input windows' blocks: its 1 store as pieces, LAST
    FIRST (Lib/Pipeline/FrameBody.lean `View.canon`; the payloads are the skeleton's and the values stated above). -/
def out0_31 (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) : Vec F S2048x256 .f32 :=
  View.canon [⟨r0_0, View.ld x0 r0_0⟩]

/-- Its stores tile the buffer (checked by evaluation), so they cover it. -/
theorem cover0_31 (p0 : Vec F S2048x256 .f32) (y : S2048x256.Idx) :
    ∃ pc ∈ ([⟨r0_0, p0⟩] : List (View.Piece (Elt F) S2048x256 .f32)), y ∈ pc.1.set :=
  View.cover_of_tiled [⟨r0_0, p0⟩] S2048x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x64 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x512 .f32) (harg6 : arg6.IsWhole) (arg7 : Memref sig .tc .vmem S512 .f32) (harg7 : arg7.IsWhole) (arg8 : Memref sig .tc .vmem S512x256 .f32) (harg8 : arg8.IsWhole) (arg9 : Memref sig .tc .vmem S256 .f32) (harg9 : arg9.IsWhole) (arg10 : Memref sig .tc .vmem S256x10 .f32) (harg10 : arg10.IsWhole) (arg11 : Memref sig .tc .vmem S10x256 .f32) (harg11 : arg11.IsWhole) (arg12 : Memref sig .tc .vmem S1x10 .f32) (harg12 : arg12.IsWhole) (arg13 : Memref sig .tc .vmem S256x512 .f32) (harg13 : arg13.IsWhole) (arg14 : Memref sig .tc .vmem S512 .f32) (harg14 : arg14.IsWhole) (arg15 : Memref sig .tc .vmem S512x100 .f32) (harg15 : arg15.IsWhole) (arg16 : Memref sig .tc .vmem S100 .f32) (harg16 : arg16.IsWhole) (arg17 : Memref sig .tc .vmem S100x256 .f32) (harg17 : arg17.IsWhole) (arg18 : Memref sig .tc .vmem S256 .f32) (harg18 : arg18.IsWhole) (arg19 : Memref sig .tc .vmem S257x512 .f32) (harg19 : arg19.IsWhole) (arg20 : Memref sig .tc .vmem S512 .f32) (harg20 : arg20.IsWhole) (arg21 : Memref sig .tc .vmem S512x512 .f32) (harg21 : arg21.IsWhole) (arg22 : Memref sig .tc .vmem S512 .f32) (harg22 : arg22.IsWhole) (arg23 : Memref sig .tc .vmem S512x512 .f32) (harg23 : arg23.IsWhole) (arg24 : Memref sig .tc .vmem S512 .f32) (harg24 : arg24.IsWhole) (arg25 : Memref sig .tc .vmem S512x64 .f32) (harg25 : arg25.IsWhole) (arg26 : Memref sig .tc .vmem S64 .f32) (harg26 : arg26.IsWhole) (arg27 : Memref sig .tc .vmem S64 .f32) (harg27 : arg27.IsWhole) (arg28 : Memref sig .tc .vmem S2048x1 .f32) (harg28 : arg28.IsWhole) (arg29 : Memref sig .tc .vmem S2048x1 .i32) (harg29 : arg29.IsWhole) (arg30 : Memref sig .tc .vmem S1x1x128 .f32) (harg30 : arg30.IsWhole) (arg31 : Memref sig .tc .vmem S1x1x128 .f32) (harg31 : arg31.IsWhole) (arg32 : Memref sig .tc .vmem S2048x256 .f32) (harg32 : arg32.IsWhole)
    (x0 : Vec F S2048x256 .f32) (x1 : Vec F S2048x256 .f32) (x2 : Vec F S2048x64 .f32) (x3 : Vec F S256x256 .f32) (x4 : Vec F S256 .f32) (x5 : Vec F S256x512 .f32) (x6 : Vec F S512 .f32) (x7 : Vec F S512x256 .f32) (x8 : Vec F S256 .f32) (x9 : Vec F S256x10 .f32) (x10 : Vec F S10x256 .f32) (x11 : Vec F S1x10 .f32) (x12 : Vec F S256x512 .f32) (x13 : Vec F S512 .f32) (x14 : Vec F S512x100 .f32) (x15 : Vec F S100 .f32) (x16 : Vec F S100x256 .f32) (x17 : Vec F S256 .f32) (x18 : Vec F S257x512 .f32) (x19 : Vec F S512 .f32) (x20 : Vec F S512x512 .f32) (x21 : Vec F S512 .f32) (x22 : Vec F S512x512 .f32) (x23 : Vec F S512 .f32) (x24 : Vec F S512x64 .f32) (x25 : Vec F S64 .f32) (x26 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare (out0_27 x0 x1 x2 x3 x4 x5 x6 x7 x8 x9 x10 x11 x12 x13 x14 x15 x16 x17 x18 x19 x20 x21 x22 x23 x24 x25 x26) ∗ owns (c : Thread nD τ) arg29 fullShare (out0_28 x0 x1 x2 x3 x4 x5 x6 x7 x8 x9 x10 x11 x12 x13 x14 x15 x16 x17 x18 x19 x20 x21 x22 x23 x24 x25 x26) ∗ owns (c : Thread nD τ) arg30 fullShare (out0_29 x0 x1 x2 x3 x4 x5 x6 x7 x8 x9 x10 x11 x12 x13 x14 x15 x16 x17 x18 x19 x20 x21 x22 x23 x24 x25 x26) ∗ owns (c : Thread nD τ) arg31 fullShare (out0_30 x0 x1 x2 x3 x4 x5 x6 x7 x8 x9 x10 x11 x12 x13 x14 x15 x16 x17 x18 x19 x20 x21 x22 x23 x24 x25 x26) ∗ owns (c : Thread nD τ) arg32 fullShare (out0_31 x0 x1 x2 x3 x4 x5 x6 x7 x8 x9 x10 x11 x12 x13 x14 x15 x16 x17 x18 x19 x20 x21 x22 x23 x24 x25 x26)) -∗ K ⟨⟩))
      ⊢ wp frame (wpE (defs₀ (F := F)) Variants.none c none) E (cc0__memo_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__memo_body_eq_skeleton]; unfold cc0__memo_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, Hk⟩
  subst hf0 hf1 hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  iexists _; isplitr
  swap; · iexact H31
  ipureintro
  refine (View.read_writes_eq_canon _ _ _ (cover0_31 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => iblk0 V c 24 t
    | ⟨25, _⟩ => iblk0 V c 25 t
    | ⟨26, _⟩ => iblk0 V c 26 t
    | ⟨27, _⟩ => out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨28, _⟩ => out0_28 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨29, _⟩ => out0_29 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨30, _⟩ => out0_30 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨31, _⟩ => out0_31 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t)
    | ⟨_ + 32, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = iblk0 V c 24 t := by dsimp only [dat0]
theorem after0_25 (c : Dev nD) (t : Fin cfg0.N) : (dat0 V c).after 25 t = iblk0 V c 25 t := by dsimp only [dat0]
theorem after0_26 (c : Dev nD) (t : Fin cfg0.N) : (dat0 V c).after 26 t = iblk0 V c 26 t := by dsimp only [dat0]
theorem after0_27 (c : Dev nD) (t : Fin cfg0.N) : (dat0 V c).after 27 t = out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
theorem after0_28 (c : Dev nD) (t : Fin cfg0.N) : (dat0 V c).after 28 t = out0_28 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
theorem after0_29 (c : Dev nD) (t : Fin cfg0.N) : (dat0 V c).after 29 t = out0_29 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
theorem after0_30 (c : Dev nD) (t : Fin cfg0.N) : (dat0 V c).after 30 t = out0_30 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]
theorem after0_31 (c : Dev nD) (t : Fin cfg0.N) : (dat0 V c).after 31 t = out0_31 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d
theorem before0_23 (c : Dev nD) (t : Fin cfg0.N) (d) : (dat0 V c).before 23 t d = iblk0 V c 23 t :=
  before0_23_of V (dat0 V c) (A_eq0 V c 23) (after0_23 V c) t d
theorem before0_24 (c : Dev nD) (t : Fin cfg0.N) (d) : (dat0 V c).before 24 t d = iblk0 V c 24 t :=
  before0_24_of V (dat0 V c) (A_eq0 V c 24) (after0_24 V c) t d
theorem before0_25 (c : Dev nD) (t : Fin cfg0.N) (d) : (dat0 V c).before 25 t d = iblk0 V c 25 t :=
  before0_25_of V (dat0 V c) (A_eq0 V c 25) (after0_25 V c) t d
theorem before0_26 (c : Dev nD) (t : Fin cfg0.N) (d) : (dat0 V c).before 26 t d = iblk0 V c 26 t :=
  before0_26_of V (dat0 V c) (A_eq0 V c 26) (after0_26 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d))
    ∗ (∃ d, owns (c : Thread nD τ) (st0_28 t) fullShare ((dat0 V c).before 28 t d))
    ∗ (∃ d, owns (c : Thread nD τ) (st0_29 t) fullShare ((dat0 V c).before 29 t d))
    ∗ (∃ d, owns (c : Thread nD τ) (st0_30 t) fullShare ((dat0 V c).before 30 t d))
    ∗ (∃ d, owns (c : Thread nD τ) (st0_31 t) fullShare ((dat0 V c).before 31 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t)
    ∗ owns (c : Thread nD τ) (st0_28 t) fullShare ((dat0 V c).after 28 t)
    ∗ owns (c : Thread nD τ) (st0_29 t) fullShare ((dat0 V c).after 29 t)
    ∗ owns (c : Thread nD τ) (st0_30 t) fullShare ((dat0 V c).after 30 t)
    ∗ owns (c : Thread nD τ) (st0_31 t) fullShare ((dat0 V c).after 31 t))

-- 32 windows' contents are matched with the body's triple at once
set_option maxHeartbeats 4000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

-- the same 32 windows, on both sides of the triple
set_option maxHeartbeats 4000000 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__final_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8x1x128 := Rect.unit (s := S8x1x128) ![0, 0, 0] S8x1x128.size inb_S8x1x128_S8x1x128_0_0_0
abbrev r1_1 : Rect S1x128 := Rect.unit (s := S1x128) ![0, 0] S1x128.size inb_S1x128_S1x128_0_0
abbrev r1_2 : Rect S128x128 := Rect.unit (s := S128x128) ![0, 0] S128x128.size inb_S128x128_S128x128_0_0

/-! ## What the body leaves in each output window's buffer -/

/-- Window 3's staging buffer after the body, from the input windows' blocks: its 1 store as pieces, LAST
    FIRST (Lib/Pipeline/FrameBody.lean `View.canon`; the payloads are the skeleton's). -/
def out1_3 (x0 : Vec F S128x128 .f32) (x1 : Vec F S8x1x128 .f32) (x2 : Vec F S8x1x128 .f32) : Vec F S128x128 .f32 :=
  View.canon [⟨r1_2, k1_pay3 (View.ld x1 r1_0) (View.ld x2 r1_0) (View.ld x0 r1_2)⟩]

/-- Its stores tile the buffer (checked by evaluation), so they cover it. -/
theorem cover1_3 (p0 : Vec F S128x128 .f32) (y : S128x128.Idx) :
    ∃ pc ∈ ([⟨r1_2, p0⟩] : List (View.Piece (Elt F) S128x128 .f32)), y ∈ pc.1.set :=
  View.cover_of_tiled [⟨r1_2, p0⟩] S128x128.size (by rfl) y

/-- Window 4's staging buffer after the body, from the input windows' blocks: its 1 store as pieces, LAST
    FIRST (Lib/Pipeline/FrameBody.lean `View.canon`; the payloads are the skeleton's). -/
def out1_4 (x0 : Vec F S128x128 .f32) (x1 : Vec F S8x1x128 .f32) (x2 : Vec F S8x1x128 .f32) : Vec F S1x128 .f32 :=
  View.canon [⟨r1_1, k1_pay2 (View.ld x1 r1_0) (View.ld x2 r1_0)⟩]

/-- Its stores tile the buffer (checked by evaluation), so they cover it. -/
theorem cover1_4 (p0 : Vec F S1x128 .f32) (y : S1x128.Idx) :
    ∃ pc ∈ ([⟨r1_1, p0⟩] : List (View.Piece (Elt F) S1x128 .f32)), y ∈ pc.1.set :=
  View.cover_of_tiled [⟨r1_1, p0⟩] S1x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S128x128 .f32) (harg0 : arg0.IsWhole) (arg1 : Memref sig .tc .vmem S8x1x128 .f32) (harg1 : arg1.IsWhole) (arg2 : Memref sig .tc .vmem S8x1x128 .f32) (harg2 : arg2.IsWhole) (arg3 : Memref sig .tc .vmem S128x128 .f32) (harg3 : arg3.IsWhole) (arg4 : Memref sig .tc .vmem S1x128 .f32) (harg4 : arg4.IsWhole)
    (x0 : Vec F S128x128 .f32) (x1 : Vec F S8x1x128 .f32) (x2 : Vec F S8x1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__final_body arg0 harg0 arg1 harg1 arg2 harg2 arg3 harg3 arg4 harg4) K := by
  simp only [cc1__final_body_eq_skeleton]; unfold cc1__final_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Run.lean ====
/-
  The run of the program `KernelIdeal`: its host lines and its two kernel calls in order, the buffers' contents at every boundary,
  and the frame claim. Taken over from the generated frame certificate; `run` states every buffer at the end, and `frame`
  is read off it.
-/
module

public import proofs.«01_k».proof.Proof.KernelIdeal.Body
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9, main_v10, main_v11]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)
theorem W5_main_arg15 (c : Dev nD) : W5 m ρ c (Proc.devRef .tc main_arg15) = m ((c : Thread nD τ).loc main_arg15) :=
  W5_args m ρ c main_arg15 (by decide)
theorem W5_main_arg16 (c : Dev nD) : W5 m ρ c (Proc.devRef .tc main_arg16) = m ((c : Thread nD τ).loc main_arg16) :=
  W5_args m ρ c main_arg16 (by decide)
theorem W5_main_arg17 (c : Dev nD) : W5 m ρ c (Proc.devRef .tc main_arg17) = m ((c : Thread nD τ).loc main_arg17) :=
  W5_args m ρ c main_arg17 (by decide)
theorem W5_main_arg18 (c : Dev nD) : W5 m ρ c (Proc.devRef .tc main_arg18) = m ((c : Thread nD τ).loc main_arg18) :=
  W5_args m ρ c main_arg18 (by decide)
theorem W5_main_arg19 (c : Dev nD) : W5 m ρ c (Proc.devRef .tc main_arg19) = m ((c : Thread nD τ).loc main_arg19) :=
  W5_args m ρ c main_arg19 (by decide)
theorem W5_main_arg20 (c : Dev nD) : W5 m ρ c (Proc.devRef .tc main_arg20) = m ((c : Thread nD τ).loc main_arg20) :=
  W5_args m ρ c main_arg20 (by decide)
theorem W5_main_arg21 (c : Dev nD) : W5 m ρ c (Proc.devRef .tc main_arg21) = m ((c : Thread nD τ).loc main_arg21) :=
  W5_args m ρ c main_arg21 (by decide)
theorem W5_main_arg22 (c : Dev nD) : W5 m ρ c (Proc.devRef .tc main_arg22) = m ((c : Thread nD τ).loc main_arg22) :=
  W5_args m ρ c main_arg22 (by decide)
theorem W5_main_arg23 (c : Dev nD) : W5 m ρ c (Proc.devRef .tc main_arg23) = m ((c : Thread nD τ).loc main_arg23) :=
  W5_args m ρ c main_arg23 (by decide)
theorem W5_main_arg24 (c : Dev nD) : W5 m ρ c (Proc.devRef .tc main_arg24) = m ((c : Thread nD τ).loc main_arg24) :=
  W5_args m ρ c main_arg24 (by decide)
theorem W5_main_arg25 (c : Dev nD) : W5 m ρ c (Proc.devRef .tc main_arg25) = m ((c : Thread nD τ).loc main_arg25) :=
  W5_args m ρ c main_arg25 (by decide)
theorem W5_main_arg26 (c : Dev nD) : W5 m ρ c (Proc.devRef .tc main_arg26) = m ((c : Thread nD τ).loc main_arg26) :=
  W5_args m ρ c main_arg26 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution ends, with every unscoped buffer at the last boundary's contents and every
    semaphore counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The arguments end as launched. -/
theorem args_kept {s : MemSt nD τ sig (Elt F)}
    (h : ∀ c : Dev nD, ∀ b ∈ Pipeline.ucRefs τ sig, s.mem (((c : Thread nD τ)).1, b) = W5 m ρ c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24)
      ∧ s.mem ((c.tc : Thread nD τ).loc main_arg25) = m ((c.tc : Thread nD τ).loc main_arg25)
      ∧ s.mem ((c.tc : Thread nD τ).loc main_arg26) = m ((c.tc : Thread nD τ).loc main_arg26) :=
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c),
       (h c _ (mem_uc main_arg25 (by decide))).trans (W5_main_arg25 m ρ c),
       (h c _ (mem_uc main_arg26 (by decide))).trans (W5_main_arg26 m ρ c)⟩

/-- The frame claim: the arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  (θ_run defs _ _).mono (fun _ h => ⟨args_kept m ρ h.1, h.2⟩) (run m ρ)

end Cert.KernelIdeal.Gen

end
-- ==== Proof.Rows.lean ====
/-
  The mathematics of ONE ROW of the model, over the extended reals: an encoder, the nearest of ten codebook rows, a
  decoder, a dynamics network and the Gaussian negative log-likelihood. Both programs are read against these functions.
-/
module

public import Idealize.ShloMosaic.Lib.Pointwise

@[expose] public section

noncomputable section

open Idealize.ShloMosaic

namespace Cert.Memo

/-- A matrix of extended reals. -/
abbrev Mat (a b : ℕ) := (⟨2, ![a, b]⟩ : Shape).Idx → EReal
/-- A vector of extended reals. -/
abbrev Arr (a : ℕ) := (⟨1, ![a]⟩ : Shape).Idx → EReal

/-- The model's weights. -/
structure Params where
  veW1 : Mat 256 256
  veB1 : Arr 256
  veW2 : Mat 256 512
  veB2 : Arr 512
  preW : Mat 512 256
  preB : Arr 256
  emb : Mat 10 256
  postW : Mat 256 512
  postB : Arr 512
  vdW1 : Mat 512 100
  vdB1 : Arr 100
  vdW2 : Mat 100 256
  vdB2 : Arr 256
  dW1 : Mat 257 512
  dB1 : Arr 512
  dW2 : Mat 512 512
  dB2 : Arr 512
  dW3 : Mat 512 512
  dB3 : Arr 512
  dW4 : Mat 512 64
  dB4 : Arr 64
  logStd : Arr 64

/-- Row `r` of a matrix. -/
def row {a b : ℕ} (M : Mat a b) (r : Fin a) : Fin b → EReal := fun k => M (ix2 r k)

/-- An affine layer: `x W + b`. -/
def lin {k n : ℕ} (W : Mat k n) (b : Arr n) (x : Fin k → EReal) : Fin n → EReal :=
  fun j => (∑ i, x i * W (ix2 i j)) + b (ix1 j)

/-- The rectifier of every entry. -/
def relu {n : ℕ} (x : Fin n → EReal) : Fin n → EReal := fun j => max (x j) 0

/-- The hyperbolic tangent of every entry. -/
def tanhs {n : ℕ} (x : Fin n → EReal) : Fin n → EReal := fun j => Ideal.tanh (x j)

/-- The encoder: two layers and the projection onto the codebook's space. -/
def enc (p : Params) (d : Fin 256 → EReal) : Fin 256 → EReal :=
  lin p.preW p.preB (lin p.veW2 p.veB2 (tanhs (lin p.veW1 p.veB1 d)))

/-- The squared norm of a codebook row. -/
def embSq (p : Params) (j : Fin 10) : EReal := ∑ k, p.emb (ix2 j k) * p.emb (ix2 j k)

/-- The inner product of a code with a codebook row. -/
def inner (p : Params) (e : Fin 256 → EReal) (j : Fin 10) : EReal := ∑ k, e k * p.emb (ix2 j k)

/-- The squared distance to a codebook row, less the code's own squared norm. -/
def score (p : Params) (e : Fin 256 → EReal) (j : Fin 10) : EReal := embSq p j - 2 * inner p e j

/-- The squared distance of a code to a codebook row. -/
def dist (p : Params) (e : Fin 256 → EReal) (j : Fin 10) : EReal :=
  ((∑ k, e k * e k) + embSq p j) - 2 * inner p e j

/-- The places of a least entry are not empty. -/
theorem least_nonempty (s : Fin 10 → EReal) : (Finset.univ.filter fun k => ∀ i, s k ≤ s i).Nonempty :=
  (Finite.exists_min s).imp fun _ h => Finset.mem_filter.2 ⟨Finset.mem_univ _, h⟩

/-- The first place of a least entry. -/
def firstMin (s : Fin 10 → EReal) : Fin 10 := (Finset.univ.filter fun k => ∀ i, s k ≤ s i).min' (least_nonempty s)

/-- The entry at `firstMin` is least. -/
theorem firstMin_le (s : Fin 10 → EReal) (i : Fin 10) : s (firstMin s) ≤ s i :=
  (Finset.mem_filter.1 (Finset.min'_mem _ (least_nonempty s))).2 i

/-- `firstMin` is at or before every place of a least entry. -/
theorem firstMin_first (s : Fin 10 → EReal) (k : Fin 10) (h : ∀ i, s k ≤ s i) : firstMin s ≤ k :=
  Finset.min'_le _ _ (Finset.mem_filter.2 ⟨Finset.mem_univ _, h⟩)

/-- Two rows whose entries are ordered alike have the same first least place. -/
theorem firstMin_congr {s t : Fin 10 → EReal} (h : ∀ i j, s i ≤ s j ↔ t i ≤ t j) : firstMin s = firstMin t :=
  le_antisymm (firstMin_first _ _ fun i => (h _ _).2 (firstMin_le t i))
    (firstMin_first _ _ fun i => (h _ _).1 (firstMin_le s i))

/-- The code chosen for a row: the nearest codebook row, the first one on a tie. -/
def code (p : Params) (d : Fin 256 → EReal) : Fin 10 := firstMin (score p (enc p d))

/-- The codebook row chosen. -/
def quant (p : Params) (d : Fin 256 → EReal) : Fin 256 → EReal := fun k => p.emb (ix2 (code p d) k)

/-- The decoder. -/
def decode (p : Params) (q : Fin 256 → EReal) : Fin 256 → EReal :=
  tanhs (lin p.vdW2 p.vdB2 (tanhs (lin p.vdW1 p.vdB1 (lin p.postW p.postB q))))

/-- The dynamics network past its first layer's sum. -/
def dynTail (p : Params) (h : Fin 512 → EReal) : Fin 64 → EReal :=
  lin p.dW4 p.dB4 (tanhs (relu (lin p.dW3 p.dB3 (relu (lin p.dW2 p.dB2 (relu h))))))

/-- The dynamics network's first layer, its input the row and the code's number. -/
def dynHead (p : Params) (x : Fin 256 → EReal) (n : ℕ) : Fin 512 → EReal := fun j =>
  (∑ i : Fin 256, x i * p.dW1 (ix2 (Fin.castSucc i) j)) + ((n : ℝ) : EReal) * p.dW1 (ix2 (Fin.last 256) j)
    + p.dB1 (ix1 j)

/-- The deviation of the action from the dynamics network's mean. -/
def dev (p : Params) (x d : Fin 256 → EReal) (a : Fin 64 → EReal) : Fin 64 → EReal := fun j =>
  a j - dynTail p (dynHead p x (code p d)) j

/-- The negative log-likelihood of deviations `v`, in the reference's form: minus the sum of the log-densities. -/
def nll (p : Params) (v : Fin 64 → EReal) : EReal :=
  -∑ j, ((((-(1 / 2 : ℝ) : ℝ) : EReal)
      * (Ideal.div (v j) (Ideal.exp (p.logStd (ix1 j))) * Ideal.div (v j) (Ideal.exp (p.logStd (ix1 j))))
      - p.logStd (ix1 j)) - ((Real.log (13176795 / 2097152) / 2 : ℝ) : EReal))

/-- The same in the kernel's form: half the squares, and the constants summed apart. -/
def nllK (p : Params) (v : Fin 64 → EReal) : EReal :=
  (∑ j, ((1 / 2 : ℝ) : EReal) * ((v j * Ideal.exp (0 - p.logStd (ix1 j))) * (v j * Ideal.exp (0 - p.logStd (ix1 j)))))
    + ((∑ j, p.logStd (ix1 j)) + ((32 * Real.log (13176795 / 2097152) : ℝ) : EReal))

/-- The squared distance of two rows. -/
def sqDist (x y : Fin 256 → EReal) : EReal := ∑ k, (x k - y k) * (x k - y k)

end Cert.Memo
-- ==== Proof.Consts.lean ====
/-
  The real numbers that the programs' float literals denote, and the kernel's named constant.
-/
module

public import Idealize.ShloMosaic.PureOps.Ideal.Laws

@[expose] public section

noncomputable section

open Idealize.ShloMosaic

namespace Cert.Memo

/-- The word of `1`. -/
theorem word_one : Ideal.ofBits .f32 0x3F800000#32 = 1 := by
  simp [Ideal.ofBits, Ideal.ieee]; rw [← EReal.coe_mul]; norm_num

/-- The word of `2`. -/
theorem word_two : Ideal.ofBits .f32 0x40000000#32 = 2 := by
  simp [Ideal.ofBits, Ideal.ieee]; norm_cast; norm_num; rfl

/-- The word of `1/2`. -/
theorem word_half : Ideal.ofBits .f32 0x3F000000#32 = ((1 / 2 : ℝ) : EReal) := by
  simp [Ideal.ofBits, Ideal.ieee]; rw [← EReal.coe_mul]; norm_num

/-- The word of `-1/2`. -/
theorem word_neg_half : Ideal.ofBits .f32 0xBF000000#32 = ((-(1 / 2) : ℝ) : EReal) := by
  simp [Ideal.ofBits, Ideal.ieee]; rw [← EReal.coe_mul]; norm_num

/-- The word of `128`. -/
theorem word_128 : Ideal.ofBits .f32 0x43000000#32 = ((128 : ℝ) : EReal) := by
  simp [Ideal.ofBits, Ideal.ieee]; rw [← EReal.coe_mul]; norm_num

/-- The word of `2^22`. -/
theorem word_2p22 : Ideal.ofBits .f32 0x4A800000#32 = ((4194304 : ℝ) : EReal) := by
  simp [Ideal.ofBits, Ideal.ieee]; rw [← EReal.coe_mul]; norm_num

/-- The word of `2^-22`. -/
theorem word_2m22 : Ideal.ofBits .f32 0x34800000#32 = ((1 / 4194304 : ℝ) : EReal) := by
  simp [Ideal.ofBits, Ideal.ieee]; rw [← EReal.coe_mul]; norm_num

/-- The word nearest to `2π`. -/
theorem word_two_pi : Ideal.ofBits .f32 0x40C90FDB#32 = ((13176795 / 2097152 : ℝ) : EReal) := by
  simp [Ideal.ofBits, Ideal.ieee]; rw [← EReal.coe_mul]; norm_num

/-- The word of `+∞`. -/
theorem word_top : Ideal.ofBits .f32 0x7F800000#32 = ⊤ := by
  simp [Ideal.ofBits, Ideal.ieee]

end Cert.Memo
-- ==== Proof.Block.lean ====
/-
  What one block of the kernel computes, row by row: each value of the kernel's body read at a row, as a function of
  that row of the block.
-/
module

public import proofs.«01_k».proof.Proof.Gen.KernelIdeal.Skeleton
public import proofs.«01_k».proof.Proof.Rows
public import proofs.«01_k».proof.Proof.Consts

@[expose] public section

noncomputable section

open Idealize.ShloMosaic

namespace Cert.Memo

open Cert.KernelIdeal Cert.KernelIdeal.Gen

/-- The kernel's named constant: half of 64 logarithms of the rounded `2 pi`. -/
theorem named_half_log : Named.named (F := Ideal) Cert.KernelIdeal.κ "half_log_2pi_64" (φ := .f32) 0x426B3F8E#32
    = ((32 * Real.log (13176795 / 2097152) : ℝ) : EReal) :=
  IdealRules.named_const.ideal_named_scalar _ _ _ _ rfl

/-! ### Picking the least score -/

/-- The least entry of a row is the one at its first least place. -/
theorem fold_min_eq (s : Fin 10 → EReal) : Finset.univ.fold min ⊤ s = s (firstMin s) :=
  le_antisymm (Finset.fold_min_le _ |>.2 (Or.inr ⟨_, Finset.mem_univ _, le_rfl⟩))
    (Finset.le_fold_min _ |>.2 ⟨le_top, fun k _ => firstMin_le s k⟩)

/-- The signed minimum of two words. -/
theorem minsi_eq (x y : BitVec 32) : IntOp.minsi x y = if x.slt y then x else y := rfl

/-- The signed minimum of some words is one of them and at most every one of them. -/
theorem fold_minsi_spec (A : Finset (Fin 10)) (b : BitVec 32) (f : Fin 10 → BitVec 32) :
    (A.fold IntOp.minsi b f = b ∨ ∃ k, A.fold IntOp.minsi b f = f k)
      ∧ ∀ k ∈ A, (A.fold IntOp.minsi b f).toInt ≤ (f k).toInt := by
  induction A using Finset.induction_on with
  | empty => simp
  | insert a A ha ih =>
    rw [Finset.fold_insert ha]
    obtain ⟨h1, h2⟩ := ih
    rw [minsi_eq]
    by_cases h : (f a).slt (A.fold IntOp.minsi b f)
    · have h' : (f a).toInt < (A.fold IntOp.minsi b f).toInt := by simpa [BitVec.slt] using h
      refine ⟨Or.inr ⟨a, if_pos h⟩, fun k hk => ?_⟩
      rw [if_pos h]
      rcases Finset.mem_insert.1 hk with rfl | hk
      · exact le_rfl
      · exact h'.le.trans (h2 k hk)
    · have h' : (A.fold IntOp.minsi b f).toInt ≤ (f a).toInt := by simpa [BitVec.slt] using h
      refine ⟨?_, fun k hk => ?_⟩
      · rw [if_neg h]; exact h1
      · rw [if_neg h]
        rcases Finset.mem_insert.1 hk with rfl | hk
        · exact h'
        · exact h2 k hk

/-- A place's number, read as a signed integer. -/
theorem toInt_place (c : Fin 10) : (BitVec.ofNat 32 c).toInt = (c : ℕ) := by
  revert c; decide

/-- The least of the places that hold the row's least entry. -/
theorem fold_minsi_eq (s : Fin 10 → EReal) :
    (Finset.univ.fold IntOp.minsi 2147483647#32 fun k : Fin 10 =>
      if s k = s (firstMin s) then BitVec.ofNat 32 k else 10#32) = BitVec.ofNat 32 (firstMin s) := by
  obtain ⟨h1, h2⟩ := fold_minsi_spec Finset.univ 2147483647#32 fun k : Fin 10 =>
      if s k = s (firstMin s) then BitVec.ofNat 32 k else 10#32
  have h3 := h2 (firstMin s) (Finset.mem_univ _)
  rw [if_pos rfl, toInt_place] at h3
  have hlt := (firstMin s).isLt
  rcases h1 with h1 | ⟨k, h1⟩
  · rw [h1, show (2147483647#32).toInt = 2147483647 from by decide] at h3
    omega
  · rw [h1] at h3 ⊢
    by_cases hk : s k = s (firstMin s)
    · rw [if_pos hk] at h3 ⊢
      rw [toInt_place] at h3
      have : firstMin s ≤ k := firstMin_first _ _ fun i => hk ▸ firstMin_le s i
      have : k = firstMin s := le_antisymm (Fin.le_def.2 (by exact_mod_cast h3)) this
      rw [this]
    · rw [if_neg hk, show (10#32).toInt = 10 from by decide] at h3
      omega

/-- The one-hot entry of a code's number. -/
theorem onehot (x c : Fin 10) :
    FloatOps.sitofp (F := Ideal) .f32 (BitVec.setWidth 32 (IntOp.cmpi .eq (BitVec.ofNat 32 x) (BitVec.ofNat 32 c)))
      = if x = c then 1 else 0 := by
  have h : BitVec.setWidth 32 (IntOp.cmpi .eq (BitVec.ofNat 32 x) (BitVec.ofNat 32 c)) = if x = c then 1#32 else 0#32 := by
    revert x c; decide
  rw [h]
  split_ifs
  · show (((1#32).toInt : ℝ) : EReal) = 1
    simp
  · show (((0#32).toInt : ℝ) : EReal) = 0
    simp

/-! ### The blocks -/

/-- The encoder of a block is the encoder of each row. -/
theorem pay2_row (x : FVec Ideal S2048x256 .f32) (w1 : FVec Ideal S256x256 .f32) (b1 : FVec Ideal S256 .f32)
    (w2 : FVec Ideal S256x512 .f32) (b2 : FVec Ideal S512 .f32) (w3 : FVec Ideal S512x256 .f32)
    (b3 : FVec Ideal S256 .f32) (r : Fin 2048) (l : Fin 256) :
    k0_pay2 (F := Ideal) x w1 b1 w2 b2 w3 b3 (ix2 r l)
      = lin w3 b3 (lin w2 b2 (tanhs (lin w1 b1 (row x r)))) l := by
  pointwise [k0_pay2, lin, tanhs, row]

/-- The scores of a block: each codebook row's squared norm less twice its inner product with the code. -/
theorem pay3_row (x : FVec Ideal S2048x256 .f32) (w1 : FVec Ideal S256x256 .f32) (b1 : FVec Ideal S256 .f32)
    (w2 : FVec Ideal S256x512 .f32) (b2 : FVec Ideal S512 .f32) (w3 : FVec Ideal S512x256 .f32)
    (b3 : FVec Ideal S256 .f32) (es : FVec Ideal S1x10 .f32) (et : FVec Ideal S256x10 .f32) (r : Fin 2048)
    (l : Fin 10) :
    k0_pay3 (F := Ideal) x w1 b1 w2 b2 w3 b3 es et (ix2 r l)
      = es (ix2 0 l) - Ideal.ofBits .f32 0x40000000#32 *
        ∑ k, lin w3 b3 (lin w2 b2 (tanhs (lin w1 b1 (row x r)))) k * et (ix2 k l) := by
  simp only [← pay2_row]
  pointwise [k0_pay3]

/-- The least score of a row. -/
theorem pay4_row (x : FVec Ideal S2048x256 .f32) (w1 : FVec Ideal S256x256 .f32) (b1 : FVec Ideal S256 .f32)
    (w2 : FVec Ideal S256x512 .f32) (b2 : FVec Ideal S512 .f32) (w3 : FVec Ideal S512x256 .f32)
    (b3 : FVec Ideal S256 .f32) (es : FVec Ideal S1x10 .f32) (et : FVec Ideal S256x10 .f32) (r : Fin 2048) :
    k0_pay4 (F := Ideal) x w1 b1 w2 b2 w3 b3 es et (ix2 r 0)
      = Finset.univ.fold min (Ideal.ofBits .f32 0x7F800000#32) fun k : Fin 10 =>
          k0_pay3 (F := Ideal) x w1 b1 w2 b2 w3 b3 es et (ix2 r k) := by
  pointwise [k0_pay4]

/-- The chosen code's number in a row: the least of the places whose score is the row's least. -/
theorem pay5_row (s : FVec Ideal S2048x10 .f32) (u : FVec Ideal S2048x1 .f32) (r : Fin 2048) :
    k0_pay5 (F := Ideal) s u (ix2 r 0)
      = Finset.univ.fold IntOp.minsi 2147483647#32 fun k : Fin 10 =>
          if s (ix2 r k) = u (ix2 r 0) then BitVec.ofNat 32 k else 10#32 := by
  pointwise [k0_pay5]

/-- The codebook row a block takes in a row whose chosen code is `c`. -/
theorem pay6_row (s : FVec Ideal S2048x10 .f32) (u : FVec Ideal S2048x1 .f32) (e : FVec Ideal S10x256 .f32)
    (r : Fin 2048) (c : Fin 10) (h : k0_pay5 (F := Ideal) s u (ix2 r 0) = BitVec.ofNat 32 c) (l : Fin 256) :
    k0_pay6 (F := Ideal) s u e (ix2 r l) = e (ix2 c l) := by
  pointwise [k0_pay6, h, onehot]
  simp

/-- The decoder of a block is the decoder of each row. -/
theorem pay7_row (s : FVec Ideal S2048x10 .f32) (u : FVec Ideal S2048x1 .f32) (e : FVec Ideal S10x256 .f32)
    (w1 : FVec Ideal S256x512 .f32) (b1 : FVec Ideal S512 .f32) (w2 : FVec Ideal S512x100 .f32)
    (b2 : FVec Ideal S100 .f32) (w3 : FVec Ideal S100x256 .f32) (b3 : FVec Ideal S256 .f32)
    (r : Fin 2048) (l : Fin 256) :
    k0_pay7 (F := Ideal) s u e w1 b1 w2 b2 w3 b3 (ix2 r l)
      = tanhs (lin w3 b3 (tanhs (lin w2 b2 (lin w1 b1 (row (k0_pay6 (F := Ideal) s u e) r))))) l := by
  pointwise [k0_pay7, lin, tanhs, row]

/-- The deviation of a block's actions, in a row whose chosen code is `c`. -/
theorem pay10_row (x : FVec Ideal S2048x256 .f32) (w : FVec Ideal S256x512 .f32) (wl : FVec Ideal S1x512 .f32)
    (s : FVec Ideal S2048x10 .f32) (u : FVec Ideal S2048x1 .f32)
    (b1 : FVec Ideal S512 .f32) (w2 : FVec Ideal S512x512 .f32) (b2 : FVec Ideal S512 .f32)
    (w3 : FVec Ideal S512x512 .f32) (b3 : FVec Ideal S512 .f32) (w4 : FVec Ideal S512x64 .f32)
    (b4 : FVec Ideal S64 .f32) (a : FVec Ideal S2048x64 .f32) (r : Fin 2048) (c : Fin 10)
    (h : k0_pay5 (F := Ideal) s u (ix2 r 0) = BitVec.ofNat 32 c) (l : Fin 64) :
    k0_pay10 (F := Ideal) (k0_pay8 (F := Ideal) x w) wl (k0_pay9 (F := Ideal) s u) b1 w2 b2 w3 b3 w4 b4 a (ix2 r l)
      = a (ix2 r l) - lin w4 b4 (tanhs (relu (lin w3 b3 (relu (lin w2 b2 (relu fun j =>
          (∑ k, x (ix2 r k) * w (ix2 k j))
            + (((c : ℕ) : ℝ) : EReal) * wl (ix2 0 j) + b1 (ix1 j))))))) l := by
  have hc : FloatOps.sitofp (F := Ideal) .f32 (BitVec.ofNat 32 c) = (((c : ℕ) : ℝ) : EReal) := by
    show (((BitVec.ofNat 32 c).toInt : ℝ) : EReal) = _
    rw [toInt_place]; simp
  pointwise [k0_pay10, k0_pay8, k0_pay9, lin, tanhs, relu, h, hc]

/-- The negative log-likelihood of a block's rows. -/
theorem pay12_row (p : Params) (v : FVec Ideal S2048x64 .f32) (r : Fin 2048) :
    k0_pay12 (F := Ideal) p.logStd v (k0_pay11 (F := Ideal) p.logStd) (ix2 r 0) = nllK p (row v r) := by
  pointwise [k0_pay12, k0_pay11, nllK, row, word_half, named_half_log]

/-- The sum of squared differences of two blocks, in every lane. -/
theorem pay14_lane (x y : FVec Ideal S2048x256 .f32) (l : Fin 128) :
    k0_pay14 (F := Ideal) x y (ix3 0 0 l) = ∑ r, sqDist (row x r) (row y r) := by
  pointwise [k0_pay14, k0_pay13, sqDist, row]
  simp only [Fin.sum_univ_one]
  exact Finset.sum_comm

/-- The same of the codes and the codebook rows chosen. -/
theorem pay16_lane (x y : FVec Ideal S2048x256 .f32) (l : Fin 128) :
    k0_pay1 (F := Ideal) (k0_pay15 (F := Ideal)) (k0_pay16 (F := Ideal) x y) (ix3 0 0 l)
      = ∑ r, sqDist (row x r) (row y r) := by
  pointwise [k0_pay1, k0_pay15, k0_pay16, k0_pay13, sqDist, row]
  simp only [Fin.sum_univ_one]
  exact Finset.sum_comm

/-- The sum of an array of eight tiles' lanes. -/
theorem sum_lanes (x : FVec Ideal S8x1x128 .f32) (h : S8x1x128.ShapeCasts S1x8x1x128) (j : S1.Idx) :
    Ideal.reduceAdd reduces_S1x8x1x128_S1 (shapeCast S1x8x1x128 x h) j = ∑ t : Fin 8, ∑ l : Fin 128, x (ix3 t 0 l) := by
  have hj : ∀ i : S1x8x1x128.Idx, reduces_S1x8x1x128_S1.drop i = j := fun i => funext fun a => by
    obtain rfl : a = 0 := Subsingleton.elim _ _
    exact Subsingleton.elim (α := Fin 1) _ _
  show ∑ i ∈ Finset.univ.filter (fun i => reduces_S1x8x1x128_S1.drop i = j), shapeCast S1x8x1x128 x h i = _
  rw [Finset.filter_true_of_mem fun i _ => hj i, sum_idx4]
  pointwise []
  simp only [Fin.sum_univ_one]

/-- The loss's factor, from the lanes of the two sums. -/
theorem k1_pay1_eq (sr sq : FVec Ideal S8x1x128 .f32) :
    k1_pay1 (F := Ideal) sr sq
      = Ideal.div ((∑ t : Fin 8, ∑ l : Fin 128, sr (ix3 t 0 l)) + 2 * ∑ t : Fin 8, ∑ l : Fin 128, sq (ix3 t 0 l))
          ((128 : ℝ) : EReal) * ((1 / 4194304 : ℝ) : EReal) := by
  pointwise [k1_pay1, sum_lanes, word_two, word_128, word_2m22]

/-- The factor's row. -/
theorem k1_pay2_at (sr sq : FVec Ideal S8x1x128 .f32) (l : Fin 128) :
    k1_pay2 (F := Ideal) sr sq (ix2 0 l) = k1_pay1 (F := Ideal) sr sq := by
  pointwise [k1_pay2]

/-- The product with the factor. -/
theorem k1_pay3_at (sr sq : FVec Ideal S8x1x128 .f32) (v : FVec Ideal S128x128 .f32) (r l : Fin 128) :
    k1_pay3 (F := Ideal) sr sq v (ix2 r l) = v (ix2 r l) * k1_pay1 (F := Ideal) sr sq := by
  pointwise [k1_pay3]

end Cert.Memo
-- ==== Proof.BlockOut.lean ====
/-
  What one block of the kernel leaves in its five output windows, as the model's rows.
-/
module

public import proofs.«01_k».proof.Proof.Block
public import proofs.«01_k».proof.Proof.KernelIdeal.Body
public import Idealize.ShloMosaic.Lib.Pipeline.Value

@[expose] public section

noncomputable section

open Idealize.ShloMosaic

namespace Cert.Memo

open Cert.KernelIdeal Cert.KernelIdeal.Gen

theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

section Picked

variable (p : Params) (x : FVec Ideal S2048x256 .f32) (et : FVec Ideal S256x10 .f32) (es : FVec Ideal S1x10 .f32)
variable (het : ∀ k l, et (ix2 k l) = p.emb (ix2 l k)) (hes : ∀ l, es (ix2 0 l) = embSq p l)

/-- A block's scores. -/
abbrev scores : FVec Ideal S2048x10 .f32 := k0_pay3 (F := Ideal) x p.veW1 p.veB1 p.veW2 p.veB2 p.preW p.preB es et
/-- A block's least scores. -/
abbrev leasts : FVec Ideal S2048x1 .f32 := k0_pay4 (F := Ideal) x p.veW1 p.veB1 p.veW2 p.veB2 p.preW p.preB es et

include het hes

/-- A block's scores are the model's. -/
theorem scores_row (r : Fin 2048) : row (scores p x et es) r = score p (enc p (row x r)) := by
  funext l
  show k0_pay3 (F := Ideal) x p.veW1 p.veB1 p.veW2 p.veB2 p.preW p.preB es et (ix2 r l) = _
  rw [pay3_row, hes, word_two]
  simp only [het]
  rfl

/-- The code a block picks is the model's. -/
theorem picked_row (r : Fin 2048) :
    k0_pay5 (F := Ideal) (scores p x et es) (leasts p x et es) (ix2 r 0) = BitVec.ofNat 32 (code p (row x r)) := by
  have hs : ∀ k, scores p x et es (ix2 r k) = score p (enc p (row x r)) k :=
    fun k => congrFun (scores_row p x et es het hes r) k
  have hl : leasts p x et es (ix2 r 0) = score p (enc p (row x r)) (firstMin (score p (enc p (row x r)))) := by
    rw [leasts, pay4_row, word_top]
    simp only [hs]
    exact fold_min_eq _
  rw [pay5_row]
  simp only [hs, hl]
  exact fold_minsi_eq _

/-- The codebook row a block takes is the model's. -/
theorem taken_row (r : Fin 2048) :
    row (k0_pay6 (F := Ideal) (scores p x et es) (leasts p x et es) p.emb) r = quant p (row x r) := by
  funext l
  exact pay6_row _ _ _ r _ (picked_row p x et es het hes r) l

end Picked

section Outs

variable (p : Params) (x0 x1 : FVec Ideal S2048x256 .f32) (x2 : FVec Ideal S2048x64 .f32)
variable (et : FVec Ideal S256x10 .f32) (es : FVec Ideal S1x10 .f32)
variable (het : ∀ k l, et (ix2 k l) = p.emb (ix2 l k)) (hes : ∀ l, es (ix2 0 l) = embSq p l)

include het hes

/-- The block's negative log-likelihoods. -/
theorem out0_27_row (r : Fin 2048) :
    out0_27 (F := Ideal) x0 x1 x2 p.veW1 p.veB1 p.veW2 p.veB2 p.preW p.preB et p.emb es p.postW p.postB p.vdW1 p.vdB1
      p.vdW2 p.vdB2 p.dW1 p.dB1 p.dW2 p.dB2 p.dW3 p.dB3 p.dW4 p.dB4 p.logStd (ix2 r 0)
      = nllK p (dev p (row x0 r) (row x1 r) (row x2 r)) := by
  unfold out0_27 k0_pay17 k0_pay18
  rw [View.canon_unit_zero zero2]
  simp only [View.ld_unit_zero (S := S2048x256) zero2, View.ld_unit_zero (S := S2048x64) zero2,
    View.ld_unit_zero (S := S256x256) zero2, View.ld_unit_zero (S := S256) zero1,
    View.ld_unit_zero (S := S256x512) zero2, View.ld_unit_zero (S := S512) zero1,
    View.ld_unit_zero (S := S512x256) zero2, View.ld_unit_zero (S := S1x10) zero2,
    View.ld_unit_zero (S := S256x10) zero2, View.ld_unit_zero (S := S512x512) zero2,
    View.ld_unit_zero (S := S512x64) zero2, View.ld_unit_zero (S := S64) zero1]
  rw [pay12_row]
  congr 1
  funext l
  refine (pay10_row _ _ _ _ _ _ _ _ _ _ _ _ _ r _ (picked_row p x1 et es het hes r) l).trans ?_
  have h1 : ∀ (k : Fin 256) (j : Fin 512), View.ld (Val := Elt Ideal) (e' := .f32) p.dW1 r0_12 (ix2 k j) = p.dW1 (ix2 (Fin.castSucc k) j) := fun k j =>
    congrArg p.dW1 (funext fun a => Fin.ext (match a with
      | ⟨0, _⟩ => by show 0 + 1 * (k : ℕ) = (k : ℕ); omega
      | ⟨1, _⟩ => by show 0 + 1 * (j : ℕ) = (j : ℕ); omega))
  have h2 : ∀ j : Fin 512, View.ld (Val := Elt Ideal) (e' := .f32) p.dW1 r0_13 (ix2 0 j) = p.dW1 (ix2 (Fin.last 256) j) := fun j =>
    congrArg p.dW1 (funext fun a => Fin.ext (match a with
      | ⟨0, _⟩ => rfl
      | ⟨1, _⟩ => by show 0 + 1 * (j : ℕ) = (j : ℕ); omega))
  simp only [h1, h2]
  rfl

/-- The block's codes. -/
theorem out0_28_row (r : Fin 2048) :
    out0_28 (F := Ideal) x0 x1 x2 p.veW1 p.veB1 p.veW2 p.veB2 p.preW p.preB et p.emb es p.postW p.postB p.vdW1 p.vdB1
      p.vdW2 p.vdB2 p.dW1 p.dB1 p.dW2 p.dB2 p.dW3 p.dB3 p.dW4 p.dB4 p.logStd (ix2 r 0)
      = BitVec.ofNat 32 (code p (row x1 r)) := by
  unfold out0_28 k0_pay17 k0_pay18
  rw [View.canon_unit_zero zero2]
  simp only [View.ld_unit_zero (S := S2048x256) zero2,
    View.ld_unit_zero (S := S256x256) zero2, View.ld_unit_zero (S := S256) zero1,
    View.ld_unit_zero (S := S256x512) zero2, View.ld_unit_zero (S := S512) zero1,
    View.ld_unit_zero (S := S512x256) zero2, View.ld_unit_zero (S := S1x10) zero2,
    View.ld_unit_zero (S := S256x10) zero2]
  exact picked_row p x1 et es het hes r

/-- The block's summed squared reconstruction errors, in every lane. -/
theorem out0_29_lane (l : Fin 128) :
    out0_29 (F := Ideal) x0 x1 x2 p.veW1 p.veB1 p.veW2 p.veB2 p.preW p.preB et p.emb es p.postW p.postB p.vdW1 p.vdB1
      p.vdW2 p.vdB2 p.dW1 p.dB1 p.dW2 p.dB2 p.dW3 p.dB3 p.dW4 p.dB4 p.logStd (ix3 0 0 l)
      = ∑ r, sqDist (row x1 r) (decode p (quant p (row x1 r))) := by
  unfold out0_29 k0_pay17 k0_pay18
  rw [View.canon_unit_zero zero3]
  simp only [View.ld_unit_zero (S := S2048x256) zero2,
    View.ld_unit_zero (S := S256x256) zero2, View.ld_unit_zero (S := S256) zero1,
    View.ld_unit_zero (S := S256x512) zero2, View.ld_unit_zero (S := S512) zero1,
    View.ld_unit_zero (S := S512x256) zero2, View.ld_unit_zero (S := S1x10) zero2,
    View.ld_unit_zero (S := S256x10) zero2, View.ld_unit_zero (S := S10x256) zero2,
    View.ld_unit_zero (S := S512x100) zero2, View.ld_unit_zero (S := S100) zero1,
    View.ld_unit_zero (S := S100x256) zero2]
  rw [pay14_lane]
  refine Finset.sum_congr rfl fun r _ => congrArg _ (funext fun k => ?_)
  refine (pay7_row _ _ _ _ _ _ _ _ _ r k).trans ?_
  rw [taken_row p x1 et es het hes r]
  rfl

/-- The block's summed squared distances of the codes to the codebook rows chosen, in every lane. -/
theorem out0_30_lane (l : Fin 128) :
    out0_30 (F := Ideal) x0 x1 x2 p.veW1 p.veB1 p.veW2 p.veB2 p.preW p.preB et p.emb es p.postW p.postB p.vdW1 p.vdB1
      p.vdW2 p.vdB2 p.dW1 p.dB1 p.dW2 p.dB2 p.dW3 p.dB3 p.dW4 p.dB4 p.logStd (ix3 0 0 l)
      = ∑ r, sqDist (enc p (row x1 r)) (quant p (row x1 r)) := by
  unfold out0_30 k0_pay17 k0_pay18
  rw [View.canon_unit_zero zero3]
  simp only [View.ld_unit_zero (S := S2048x256) zero2,
    View.ld_unit_zero (S := S256x256) zero2, View.ld_unit_zero (S := S256) zero1,
    View.ld_unit_zero (S := S256x512) zero2, View.ld_unit_zero (S := S512) zero1,
    View.ld_unit_zero (S := S512x256) zero2, View.ld_unit_zero (S := S1x10) zero2,
    View.ld_unit_zero (S := S256x10) zero2, View.ld_unit_zero (S := S10x256) zero2]
  rw [pay16_lane]
  refine Finset.sum_congr rfl fun r _ => congrArg₂ _ (funext fun k => ?_) (taken_row p x1 et es het hes r)
  exact pay2_row _ _ _ _ _ _ _ r k

omit het hes in
/-- The block's states, passed on. -/
theorem out0_31_eq :
    out0_31 (F := Ideal) x0 x1 x2 p.veW1 p.veB1 p.veW2 p.veB2 p.preW p.preB et p.emb es p.postW p.postB p.vdW1 p.vdB1
      p.vdW2 p.vdB2 p.dW1 p.dB1 p.dW2 p.dB2 p.dW3 p.dB3 p.dW4 p.dB4 p.logStd = x0 := by
  unfold out0_31
  rw [View.canon_unit_zero zero2, View.ld_unit_zero (S := S2048x256) zero2]

end Outs

end Cert.Memo
-- ==== Proof.KernelBlocks.lean ====
/-
  The first kernel call's inputs: the weights the program starts with, and what each input window holds at each of the
  eight grid points, in terms of the arrays the program starts with.
-/
module

public import proofs.«01_k».proof.Proof.KernelIdeal.Run
public import proofs.«01_k».proof.Proof.BlockOut
public import Idealize.ShloMosaic.Lib.Pipeline.ValueKit
public import Idealize.ShloMosaic.Lib.StableHlo.RunRead

@[expose] public section

noncomputable section

open Idealize.ShloMosaic Idealize.ShloMosaic.TcCoe Idealize.ShloMosaic.StableHlo Idealize.ShloMosaic.Pipeline Idealize.SL.Sem

namespace Cert.Memo

open Cert.KernelIdeal Cert.KernelIdeal.Gen

variable (m : (ℓ : Loc nD τ sig) → Buf (Elt Ideal) ℓ) (ρ : Dev nD → PrngReg) (c : Dev nD)

/-- The weights the program starts with. -/
def par : Params where
  veW1 := m ((c : Thread nD τ).loc main_arg5)
  veB1 := m ((c : Thread nD τ).loc main_arg6)
  veW2 := m ((c : Thread nD τ).loc main_arg7)
  veB2 := m ((c : Thread nD τ).loc main_arg8)
  preW := m ((c : Thread nD τ).loc main_arg9)
  preB := m ((c : Thread nD τ).loc main_arg10)
  emb := m ((c : Thread nD τ).loc main_arg11)
  postW := m ((c : Thread nD τ).loc main_arg12)
  postB := m ((c : Thread nD τ).loc main_arg13)
  vdW1 := m ((c : Thread nD τ).loc main_arg14)
  vdB1 := m ((c : Thread nD τ).loc main_arg15)
  vdW2 := m ((c : Thread nD τ).loc main_arg16)
  vdB2 := m ((c : Thread nD τ).loc main_arg17)
  dW1 := m ((c : Thread nD τ).loc main_arg18)
  dB1 := m ((c : Thread nD τ).loc main_arg19)
  dW2 := m ((c : Thread nD τ).loc main_arg20)
  dB2 := m ((c : Thread nD τ).loc main_arg21)
  dW3 := m ((c : Thread nD τ).loc main_arg22)
  dB3 := m ((c : Thread nD τ).loc main_arg23)
  dW4 := m ((c : Thread nD τ).loc main_arg24)
  dB4 := m ((c : Thread nD τ).loc main_arg25)
  logStd := m ((c : Thread nD τ).loc main_arg26)

/-- The rows of `X`. -/
def xs : Mat 16384 256 := m ((c : Thread nD τ).loc main_arg0)
/-- The rows of `Delta_X`. -/
def dxs : Mat 16384 256 := m ((c : Thread nD τ).loc main_arg1)
/-- The rows of `A`. -/
def acts : Mat 16384 64 := m ((c : Thread nD τ).loc main_arg2)

/-! ### Where the windows lie -/

/-- The row windows lie one block of rows after another. -/
theorem index_rows : ∀ t : Fin grid0.N, win0_0.index t = ![t.val, 0] ∧ win0_1.index t = ![t.val, 0]
    ∧ win0_2.index t = ![t.val, 0] ∧ win0_27.index t = ![t.val, 0] ∧ win0_28.index t = ![t.val, 0]
    ∧ win0_29.index t = ![t.val, 0, 0] ∧ win0_30.index t = ![t.val, 0, 0] ∧ win0_31.index t = ![t.val, 0] := by
  decide +kernel
/-- The windows of the matrices among the weights are whole. -/
theorem index_mats : ∀ t : Fin grid0.N, win0_3.index t = ![0, 0]
    ∧ win0_5.index t = ![0, 0]
    ∧ win0_7.index t = ![0, 0]
    ∧ win0_9.index t = ![0, 0]
    ∧ win0_10.index t = ![0, 0]
    ∧ win0_11.index t = ![0, 0]
    ∧ win0_12.index t = ![0, 0]
    ∧ win0_14.index t = ![0, 0]
    ∧ win0_16.index t = ![0, 0]
    ∧ win0_18.index t = ![0, 0]
    ∧ win0_20.index t = ![0, 0]
    ∧ win0_22.index t = ![0, 0]
    ∧ win0_24.index t = ![0, 0] := by
  decide +kernel
/-- The windows of the vectors among the weights are whole. -/
theorem index_vecs : ∀ t : Fin grid0.N, win0_4.index t = ![0]
    ∧ win0_6.index t = ![0]
    ∧ win0_8.index t = ![0]
    ∧ win0_13.index t = ![0]
    ∧ win0_15.index t = ![0]
    ∧ win0_17.index t = ![0]
    ∧ win0_19.index t = ![0]
    ∧ win0_21.index t = ![0]
    ∧ win0_23.index t = ![0]
    ∧ win0_25.index t = ![0]
    ∧ win0_26.index t = ![0] := by
  decide +kernel

/-- Row `r` of block `t` among all the rows. -/
def place (t : Fin 8) (r : Fin 2048) : Fin 16384 := ⟨t.val * 2048 + r.val, by omega⟩

/-- A grid point as one of the eight blocks. -/
abbrev tile (t : Fin cfg0.N) : Fin 8 := ⟨t.val, N_0 ▸ t.isLt⟩

variable (t : Fin cfg0.N)

/-! ### The rows -/

/-- The block of `X`. -/
theorem block_xs (r : Fin 2048) : row (iblk0 (V1 m ρ) c 0 t) r = row (xs m c) (place (tile t) r) := by
  funext k
  have h : V1 m ρ c main_arg0 = xs m c := W1_args m ρ c main_arg0 (by decide)
  rw [← h]
  show iblk0 (V1 m ρ) c 0 t (ix2 r k) = V1 m ρ c main_arg0 (ix2 (place (tile t) r) k)
  blk_ext [iblk0, index_rows t, place]
/-- The block of `Delta_X`. -/
theorem block_dxs (r : Fin 2048) : row (iblk0 (V1 m ρ) c 1 t) r = row (dxs m c) (place (tile t) r) := by
  funext k
  have h : V1 m ρ c main_arg1 = dxs m c := W1_args m ρ c main_arg1 (by decide)
  rw [← h]
  show iblk0 (V1 m ρ) c 1 t (ix2 r k) = V1 m ρ c main_arg1 (ix2 (place (tile t) r) k)
  blk_ext [iblk0, index_rows t, place]
/-- The block of `A`. -/
theorem block_acts (r : Fin 2048) : row (iblk0 (V1 m ρ) c 2 t) r = row (acts m c) (place (tile t) r) := by
  funext k
  have h : V1 m ρ c main_arg2 = acts m c := W1_args m ρ c main_arg2 (by decide)
  rw [← h]
  show iblk0 (V1 m ρ) c 2 t (ix2 r k) = V1 m ρ c main_arg2 (ix2 (place (tile t) r) k)
  blk_ext [iblk0, index_rows t, place]

/-! ### The weights -/

theorem block_veW1 : iblk0 (V1 m ρ) c 3 t = (par m c).veW1 :=
  Eq.trans (b := V1 m ρ c main_arg5) (by funext y; blk_ext [iblk0, index_mats t]) (W1_args m ρ c main_arg5 (by decide))
theorem block_veB1 : iblk0 (V1 m ρ) c 4 t = (par m c).veB1 :=
  Eq.trans (b := V1 m ρ c main_arg6) (by funext y; blk_ext [iblk0, index_vecs t]) (W1_args m ρ c main_arg6 (by decide))
theorem block_veW2 : iblk0 (V1 m ρ) c 5 t = (par m c).veW2 :=
  Eq.trans (b := V1 m ρ c main_arg7) (by funext y; blk_ext [iblk0, index_mats t]) (W1_args m ρ c main_arg7 (by decide))
theorem block_veB2 : iblk0 (V1 m ρ) c 6 t = (par m c).veB2 :=
  Eq.trans (b := V1 m ρ c main_arg8) (by funext y; blk_ext [iblk0, index_vecs t]) (W1_args m ρ c main_arg8 (by decide))
theorem block_preW : iblk0 (V1 m ρ) c 7 t = (par m c).preW :=
  Eq.trans (b := V1 m ρ c main_arg9) (by funext y; blk_ext [iblk0, index_mats t]) (W1_args m ρ c main_arg9 (by decide))
theorem block_preB : iblk0 (V1 m ρ) c 8 t = (par m c).preB :=
  Eq.trans (b := V1 m ρ c main_arg10) (by funext y; blk_ext [iblk0, index_vecs t]) (W1_args m ρ c main_arg10 (by decide))
theorem block_emb : iblk0 (V1 m ρ) c 10 t = (par m c).emb :=
  Eq.trans (b := V1 m ρ c main_arg11) (by funext y; blk_ext [iblk0, index_mats t]) (W1_args m ρ c main_arg11 (by decide))
theorem block_postW : iblk0 (V1 m ρ) c 12 t = (par m c).postW :=
  Eq.trans (b := V1 m ρ c main_arg12) (by funext y; blk_ext [iblk0, index_mats t]) (W1_args m ρ c main_arg12 (by decide))
theorem block_postB : iblk0 (V1 m ρ) c 13 t = (par m c).postB :=
  Eq.trans (b := V1 m ρ c main_arg13) (by funext y; blk_ext [iblk0, index_vecs t]) (W1_args m ρ c main_arg13 (by decide))
theorem block_vdW1 : iblk0 (V1 m ρ) c 14 t = (par m c).vdW1 :=
  Eq.trans (b := V1 m ρ c main_arg14) (by funext y; blk_ext [iblk0, index_mats t]) (W1_args m ρ c main_arg14 (by decide))
theorem block_vdB1 : iblk0 (V1 m ρ) c 15 t = (par m c).vdB1 :=
  Eq.trans (b := V1 m ρ c main_arg15) (by funext y; blk_ext [iblk0, index_vecs t]) (W1_args m ρ c main_arg15 (by decide))
theorem block_vdW2 : iblk0 (V1 m ρ) c 16 t = (par m c).vdW2 :=
  Eq.trans (b := V1 m ρ c main_arg16) (by funext y; blk_ext [iblk0, index_mats t]) (W1_args m ρ c main_arg16 (by decide))
theorem block_vdB2 : iblk0 (V1 m ρ) c 17 t = (par m c).vdB2 :=
  Eq.trans (b := V1 m ρ c main_arg17) (by funext y; blk_ext [iblk0, index_vecs t]) (W1_args m ρ c main_arg17 (by decide))
theorem block_dW1 : iblk0 (V1 m ρ) c 18 t = (par m c).dW1 :=
  Eq.trans (b := V1 m ρ c main_arg18) (by funext y; blk_ext [iblk0, index_mats t]) (W1_args m ρ c main_arg18 (by decide))
theorem block_dB1 : iblk0 (V1 m ρ) c 19 t = (par m c).dB1 :=
  Eq.trans (b := V1 m ρ c main_arg19) (by funext y; blk_ext [iblk0, index_vecs t]) (W1_args m ρ c main_arg19 (by decide))
theorem block_dW2 : iblk0 (V1 m ρ) c 20 t = (par m c).dW2 :=
  Eq.trans (b := V1 m ρ c main_arg20) (by funext y; blk_ext [iblk0, index_mats t]) (W1_args m ρ c main_arg20 (by decide))
theorem block_dB2 : iblk0 (V1 m ρ) c 21 t = (par m c).dB2 :=
  Eq.trans (b := V1 m ρ c main_arg21) (by funext y; blk_ext [iblk0, index_vecs t]) (W1_args m ρ c main_arg21 (by decide))
theorem block_dW3 : iblk0 (V1 m ρ) c 22 t = (par m c).dW3 :=
  Eq.trans (b := V1 m ρ c main_arg22) (by funext y; blk_ext [iblk0, index_mats t]) (W1_args m ρ c main_arg22 (by decide))
theorem block_dB3 : iblk0 (V1 m ρ) c 23 t = (par m c).dB3 :=
  Eq.trans (b := V1 m ρ c main_arg23) (by funext y; blk_ext [iblk0, index_vecs t]) (W1_args m ρ c main_arg23 (by decide))
theorem block_dW4 : iblk0 (V1 m ρ) c 24 t = (par m c).dW4 :=
  Eq.trans (b := V1 m ρ c main_arg24) (by funext y; blk_ext [iblk0, index_mats t]) (W1_args m ρ c main_arg24 (by decide))
theorem block_dB4 : iblk0 (V1 m ρ) c 25 t = (par m c).dB4 :=
  Eq.trans (b := V1 m ρ c main_arg25) (by funext y; blk_ext [iblk0, index_vecs t]) (W1_args m ρ c main_arg25 (by decide))
theorem block_logStd : iblk0 (V1 m ρ) c 26 t = (par m c).logStd :=
  Eq.trans (b := V1 m ρ c main_arg26) (by funext y; blk_ext [iblk0, index_vecs t]) (W1_args m ρ c main_arg26 (by decide))

/-- The transposed codebook. -/
theorem block_embT (k : Fin 256) (l : Fin 10) : iblk0 (V1 m ρ) c 9 t (ix2 k l) = (par m c).emb (ix2 l k) := by
  have h : V1 m ρ c main_v0 (ix2 k l) = (par m c).emb (ix2 l k) := by
    show StableHlo.after hostOps0 (W0 m ρ c) (main_v0 : DevRef τ sig) (ix2 k l) = _
    after_reads_simp
    pointwise
    rfl
  rw [← h]
  blk_ext [iblk0, index_mats t]
/-- The squared norms of the codebook's rows. -/
theorem block_embSq (l : Fin 10) : iblk0 (V1 m ρ) c 11 t (ix2 0 l) = embSq (par m c) l := by
  have h : V1 m ρ c main_v3 (ix2 0 l) = embSq (par m c) l := by
    show StableHlo.after hostOps0 (W0 m ρ c) (main_v3 : DevRef τ sig) (ix2 0 l) = _
    after_reads_simp
    pointwise
    rfl
  rw [← h]
  blk_ext [iblk0, index_mats t]

end Cert.Memo
-- ==== Proof.KernelArrays.lean ====
/-
  The first kernel call's output arrays when the call is over, each entry a function of one row of the program's inputs
  (or of the sum over one block of rows).
-/
module

public import proofs.«01_k».proof.Proof.KernelBlocks

@[expose] public section

noncomputable section

open Idealize.ShloMosaic Idealize.ShloMosaic.TcCoe Idealize.ShloMosaic.StableHlo Idealize.ShloMosaic.Pipeline Idealize.SL.Sem

namespace Cert.Memo

open Cert.KernelIdeal Cert.KernelIdeal.Gen

variable (m : (ℓ : Loc nD τ sig) → Buf (Elt Ideal) ℓ) (ρ : Dev nD → PrngReg) (c : Dev nD)

/-- The negative log-likelihood of row `r`. -/
def rowNll (r : Fin 16384) : EReal := nllK (par m c) (dev (par m c) (row (xs m c) r) (row (dxs m c) r) (row (acts m c) r))
/-- The code of row `r`. -/
def rowCode (r : Fin 16384) : Fin 10 := code (par m c) (row (dxs m c) r)
/-- The reconstruction's error in row `r`. -/
def rowErr (r : Fin 16384) : EReal := sqDist (row (dxs m c) r) (decode (par m c) (quant (par m c) (row (dxs m c) r)))
/-- The codebook's error in row `r`. -/
def rowGap (r : Fin 16384) : EReal := sqDist (enc (par m c) (row (dxs m c) r)) (quant (par m c) (row (dxs m c) r))

/-- Every row's negative log-likelihood. -/
theorem array_nll : (dat0 (V1 m ρ) c).arrAt 27 cfg0.N = fun i => rowNll m c (i 0) := by
  refine (dat0 (V1 m ρ) c).arrAt_eq_of_covers 27 _ (by decide +kernel) fun t _ y => ?_
  blk_simp
  rw [after0_27]
  simp only [block_veW1, block_veB1, block_veW2, block_veB2, block_preW, block_preB, block_emb, block_postW,
    block_postB, block_vdW1, block_vdB1, block_vdW2, block_vdB2, block_dW1, block_dB1, block_dW2,
    block_dB2, block_dW3, block_dB3, block_dW4, block_dB4, block_logStd]
  obtain ⟨r, k, rfl⟩ : ∃ (r : Fin 2048) (k : Fin 1), y = ix2 r k := ⟨y 0, y 1, by funext a; match a with | ⟨0, _⟩ => rfl | ⟨1, _⟩ => rfl⟩
  obtain rfl : k = 0 := Subsingleton.elim _ _
  refine (out0_27_row (par m c) _ _ _ _ _ (block_embT m ρ c t) (block_embSq m ρ c t) r).trans ?_
  rw [block_xs, block_dxs, block_acts]
  refine congrArg (rowNll m c) (Fin.ext ?_)
  blk_simp [index_rows t, place]
/-- Every row's code, as a word. -/
theorem array_code : (dat0 (V1 m ρ) c).arrAt 28 cfg0.N = fun i => BitVec.ofNat 32 (rowCode m c (i 0)) := by
  refine (dat0 (V1 m ρ) c).arrAt_eq_of_covers 28 _ (by decide +kernel) fun t _ y => ?_
  blk_simp
  rw [after0_28]
  simp only [block_veW1, block_veB1, block_veW2, block_veB2, block_preW, block_preB, block_emb, block_postW,
    block_postB, block_vdW1, block_vdB1, block_vdW2, block_vdB2, block_dW1, block_dB1, block_dW2,
    block_dB2, block_dW3, block_dB3, block_dW4, block_dB4, block_logStd]
  obtain ⟨r, k, rfl⟩ : ∃ (r : Fin 2048) (k : Fin 1), y = ix2 r k := ⟨y 0, y 1, by funext a; match a with | ⟨0, _⟩ => rfl | ⟨1, _⟩ => rfl⟩
  obtain rfl : k = 0 := Subsingleton.elim _ _
  refine (out0_28_row (par m c) _ _ _ _ _ (block_embT m ρ c t) (block_embSq m ρ c t) r).trans ?_
  rw [block_dxs]
  refine congrArg (fun r => BitVec.ofNat 32 (rowCode m c r)) (Fin.ext ?_)
  blk_simp [index_rows t, place]
/-- Every block's sum of reconstruction errors, in each lane. -/
theorem array_err : (dat0 (V1 m ρ) c).arrAt 29 cfg0.N = fun i => ∑ r, rowErr m c (place (i 0) r) := by
  refine (dat0 (V1 m ρ) c).arrAt_eq_of_covers 29 _ (by decide +kernel) fun t _ y => ?_
  blk_simp
  rw [after0_29]
  simp only [block_veW1, block_veB1, block_veW2, block_veB2, block_preW, block_preB, block_emb, block_postW,
    block_postB, block_vdW1, block_vdB1, block_vdW2, block_vdB2, block_dW1, block_dB1, block_dW2,
    block_dB2, block_dW3, block_dB3, block_dW4, block_dB4, block_logStd]
  obtain ⟨a, b, l, rfl⟩ : ∃ (a b : Fin 1) (l : Fin 128), y = ix3 a b l := ⟨y 0, y 1, y 2, by
    funext a; match a with | ⟨0, _⟩ => rfl | ⟨1, _⟩ => rfl | ⟨2, _⟩ => rfl⟩
  obtain rfl : a = 0 := Subsingleton.elim _ _
  obtain rfl : b = 0 := Subsingleton.elim _ _
  refine (out0_29_lane (par m c) _ _ _ _ _ (block_embT m ρ c t) (block_embSq m ρ c t) l).trans ?_
  simp only [block_dxs]
  refine congrArg (fun s => ∑ r, rowErr m c (place s r)) (Fin.ext ?_)
  blk_simp [index_rows t]
  exact (Nat.add_zero _).symm
/-- Every block's sum of codebook errors, in each lane. -/
theorem array_gap : (dat0 (V1 m ρ) c).arrAt 30 cfg0.N = fun i => ∑ r, rowGap m c (place (i 0) r) := by
  refine (dat0 (V1 m ρ) c).arrAt_eq_of_covers 30 _ (by decide +kernel) fun t _ y => ?_
  blk_simp
  rw [after0_30]
  simp only [block_veW1, block_veB1, block_veW2, block_veB2, block_preW, block_preB, block_emb, block_postW,
    block_postB, block_vdW1, block_vdB1, block_vdW2, block_vdB2, block_dW1, block_dB1, block_dW2,
    block_dB2, block_dW3, block_dB3, block_dW4, block_dB4, block_logStd]
  obtain ⟨a, b, l, rfl⟩ : ∃ (a b : Fin 1) (l : Fin 128), y = ix3 a b l := ⟨y 0, y 1, y 2, by
    funext a; match a with | ⟨0, _⟩ => rfl | ⟨1, _⟩ => rfl | ⟨2, _⟩ => rfl⟩
  obtain rfl : a = 0 := Subsingleton.elim _ _
  obtain rfl : b = 0 := Subsingleton.elim _ _
  refine (out0_30_lane (par m c) _ _ _ _ _ (block_embT m ρ c t) (block_embSq m ρ c t) l).trans ?_
  simp only [block_dxs]
  refine congrArg (fun s => ∑ r, rowGap m c (place s r)) (Fin.ext ?_)
  blk_simp [index_rows t]
  exact (Nat.add_zero _).symm
/-- The rows of `X` again. -/
theorem array_x : (dat0 (V1 m ρ) c).arrAt 31 cfg0.N = xs m c := by
  refine (dat0 (V1 m ρ) c).arrAt_eq_of_covers 31 _ (by decide +kernel) fun t _ y => ?_
  blk_simp
  rw [after0_31]
  simp only [block_veW1, block_veB1, block_veW2, block_veB2, block_preW, block_preB, block_emb, block_postW,
    block_postB, block_vdW1, block_vdB1, block_vdW2, block_vdB2, block_dW1, block_dB1, block_dW2,
    block_dB2, block_dW3, block_dB3, block_dW4, block_dB4, block_logStd]
  obtain ⟨r, k, rfl⟩ : ∃ (r : Fin 2048) (k : Fin 256), y = ix2 r k := ⟨y 0, y 1, by funext a; match a with | ⟨0, _⟩ => rfl | ⟨1, _⟩ => rfl⟩
  rw [out0_31_eq (par m c)]
  refine (congrFun (block_xs m ρ c t r) k).trans (congrArg (xs m c) ?_)
  blk_ext [index_rows t, place]

end Cert.Memo
-- ==== Proof.KernelVal.lean ====
/-
  The kernel's five results, read at one index, each a function of the rows of the program's inputs.
-/
module

public import proofs.«01_k».proof.Proof.KernelArrays

@[expose] public section

noncomputable section

open Idealize.ShloMosaic Idealize.ShloMosaic.TcCoe Idealize.ShloMosaic.StableHlo Idealize.ShloMosaic.Pipeline Idealize.SL.Sem

namespace Cert.Memo

open Cert.KernelIdeal Cert.KernelIdeal.Gen

variable (m : (ℓ : Loc nD τ sig) → Buf (Elt Ideal) ℓ) (ρ : Dev nD → PrngReg) (c : Dev nD)

/-- The kernel's form of the scale: of every block's two sums, once per lane, and divided by the lanes. -/
def scaleK : EReal :=
  Ideal.div ((∑ t : Fin 8, ∑ _l : Fin 128, ∑ r, rowErr m c (place t r))
    + 2 * ∑ t : Fin 8, ∑ _l : Fin 128, ∑ r, rowGap m c (place t r)) ((128 : ℝ) : EReal) * ((1 / 4194304 : ℝ) : EReal)

/-! ### What the second call finds -/

/-- The sums of the reconstruction's errors. -/
theorem entry_err : V3 m ρ c main_v4_2 = fun i => ∑ r, rowErr m c (place (i 0) r) :=
  ((W3_of m ρ c main_v4_2 (by decide)).trans (W2_arr m ρ c 29)).trans (array_err m ρ c)
/-- The sums of the codebook's errors. -/
theorem entry_gap : V3 m ρ c main_v4_3 = fun i => ∑ r, rowGap m c (place (i 0) r) :=
  ((W3_of m ρ c main_v4_3 (by decide)).trans (W2_arr m ρ c 30)).trans (array_gap m ρ c)
/-- Place `b` of row `a`, 128 places to a row, among all the places. -/
def flat (a b : Fin 128) : Fin 16384 := ⟨a.val * 128 + b.val, by omega⟩
/-- The negative log-likelihoods, 128 to a row. -/
theorem entry_nll (a b : Fin 128) : V3 m ρ c main_v5 (ix2 a b) = rowNll m c (flat a b) := by
  have h : W2 m ρ c (main_v4_0 : DevRef τ sig) = _ := (W2_arr m ρ c 27).trans (array_nll m ρ c)
  show StableHlo.after hostOps1 (W2 m ρ c) (main_v5 : DevRef τ sig) (ix2 a b) = _
  after_reads_simp
  rw [h]
  pointwise [flat]

/-! ### The second call -/

/-- Its windows are whole. -/
theorem index_one : ∀ t : Fin grid1.N, win1_0.index t = ![0, 0] ∧ win1_1.index t = ![0, 0, 0]
    ∧ win1_2.index t = ![0, 0, 0] ∧ win1_3.index t = ![0, 0] ∧ win1_4.index t = ![0, 0] := by
  decide +kernel

section Blocks
variable (t : Fin cfg1.N)
theorem block1_nll : iblk1 (V3 m ρ) c 0 t = V3 m ρ c main_v5 := by
  funext y; blk_ext [iblk1, index_one t]
theorem block1_err : iblk1 (V3 m ρ) c 1 t = V3 m ρ c main_v4_2 := by
  funext y; blk_ext [iblk1, index_one t]
theorem block1_gap : iblk1 (V3 m ρ) c 2 t = V3 m ρ c main_v4_3 := by
  funext y; blk_ext [iblk1, index_one t]
end Blocks

/-- The losses, 128 to a row. -/
theorem array_loss : W4 m ρ c (main_v6_0 : DevRef τ sig)
    = (fun i => rowNll m c (flat (i 0) (i 1)) * scaleK m c : FVec Ideal S128x128 .f32) := by
  refine (W4_arr m ρ c 3).trans ((dat1 (V3 m ρ) c).arrAt_eq_of_covers 3 _ (by decide +kernel) fun t _ y => ?_)
  obtain ⟨a, b, rfl⟩ : ∃ (a b : Fin 128), y = ix2 a b := ⟨y 0, y 1, by
    funext a; match a with | ⟨0, _⟩ => rfl | ⟨1, _⟩ => rfl⟩
  blk_simp
  rw [after1_3, block1_nll, block1_err, block1_gap]
  unfold out1_3
  rw [View.canon_unit_zero zero2]
  simp only [View.ld_unit_zero (S := S8x1x128) zero3, View.ld_unit_zero (S := S128x128) zero2]
  rw [k1_pay3_at, k1_pay1_eq, entry_err, entry_gap, entry_nll]
  refine congrArg₂ (fun a b => rowNll m c (flat a b) * scaleK m c) (Fin.ext ?_) (Fin.ext ?_) <;>
    blk_simp [index_one t]

/-- The scale, once per lane. -/
theorem array_scale : W4 m ρ c (main_v6_1 : DevRef τ sig) = (fun _ => scaleK m c : FVec Ideal S1x128 .f32) := by
  refine (W4_arr m ρ c 4).trans ((dat1 (V3 m ρ) c).arrAt_eq_of_covers 4 _ (by decide +kernel) fun t _ y => ?_)
  obtain ⟨a, b, rfl⟩ : ∃ (a : Fin 1) (b : Fin 128), y = ix2 a b := ⟨y 0, y 1, by
    funext a; match a with | ⟨0, _⟩ => rfl | ⟨1, _⟩ => rfl⟩
  obtain rfl : a = 0 := Subsingleton.elim _ _
  blk_simp
  rw [after1_4, block1_err, block1_gap]
  unfold out1_4
  rw [View.canon_unit_zero zero2]
  simp only [View.ld_unit_zero (S := S8x1x128) zero3]
  rw [k1_pay2_at, k1_pay1_eq, entry_err, entry_gap]
  rfl

/-! ### The results -/

/-- What the first call leaves and the second one does not write is what the results are taken from. -/
theorem kept_nll : W4 m ρ c (main_v4_0 : DevRef τ sig) = fun i => rowNll m c (i 0) :=
  (((W4_of m ρ c main_v4_0 (by decide)).trans (W3_of m ρ c main_v4_0 (by decide))).trans (W2_arr m ρ c 27)).trans
    (array_nll m ρ c)
/-- The same of the codes. -/
theorem kept_code : W4 m ρ c (main_v4_1 : DevRef τ sig) = fun i => BitVec.ofNat 32 (rowCode m c (i 0)) :=
  (((W4_of m ρ c main_v4_1 (by decide)).trans (W3_of m ρ c main_v4_1 (by decide))).trans (W2_arr m ρ c 28)).trans
    (array_code m ρ c)

/-- Result 1: a row's loss. -/
theorem result_loss (r : Fin 16384) : W5 m ρ c (main_v7 : DevRef τ sig) (ix1 r) = rowNll m c r * scaleK m c := by
  show StableHlo.after hostOps2 (W4 m ρ c) (main_v7 : DevRef τ sig) (ix1 r) = _
  after_reads_simp
  rw [array_loss]
  pointwise [flat, Nat.div_add_mod']
/-- Result 2: a row's negative log-likelihood. -/
theorem result_nll (r : Fin 16384) : W5 m ρ c (main_v8 : DevRef τ sig) (ix1 r) = rowNll m c r := by
  show StableHlo.after hostOps2 (W4 m ρ c) (main_v8 : DevRef τ sig) (ix1 r) = _
  after_reads_simp
  rw [kept_nll]
  pointwise
/-- Result 3: the rows of `X`. -/
theorem result_x : W5 m ρ c (main_v4_4 : DevRef τ sig) = xs m c :=
  ((((W5_of m ρ c main_v4_4 (by decide)).trans (W4_of m ρ c main_v4_4 (by decide))).trans
    (W3_of m ρ c main_v4_4 (by decide))).trans (W2_arr m ρ c 31)).trans (array_x m ρ c)
/-- Result 4: a row's code. -/
theorem result_code (r : Fin 16384) : W5 m ρ c (main_v9 : DevRef τ sig) (ix1 r) = BitVec.ofNat 32 (rowCode m c r) := by
  show StableHlo.after hostOps2 (W4 m ρ c) (main_v9 : DevRef τ sig) (ix1 r) = _
  after_reads_simp
  rw [kept_code]
  pointwise
/-- Result 5: the scale. -/
theorem result_scale : W5 m ρ c (main_v11 : DevRef τ sig) ix0 = scaleK m c := by
  show StableHlo.after hostOps2 (W4 m ρ c) (main_v11 : DevRef τ sig) ix0 = _
  after_reads_simp
  rw [array_scale]
  pointwise

end Cert.Memo
-- ==== Proof.RefRun.lean ====
/-
  The reference program as straight lines of host operations, stage by stage, and its run: from any memory every
  execution ends, each buffer holding what the stages leave in it, one after another.
-/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

noncomputable section

namespace Cert.Memo.Ref

open Cert.ReferenceIdeal Cert.ReferenceIdeal.Gen
open Idealize.ShloMosaic Idealize.ShloMosaic.TcCoe Idealize.ShloMosaic.StableHlo Idealize.SL.Sem

variable {F : FTy → Type} [FloatOps F]

/-- The encoder. -/
abbrev encOps : List (HloOp τ sig (Elt F)) :=
  [ binary main_arg1 main_arg5 main_v0 (fun l r => Host.dotGeneral dot_S16384x256_S256x256_S16384x256_1_0_0_1_n_n none l r),
    unary main_arg6 main_v1 (broadcastInDim S1x256 ![1] bcast_S256_S1x256_1),
    unary main_v1 main_v2 (broadcastInDim S16384x256 ![0, 1] bcast_S1x256_S16384x256_0_1),
    binary main_v0 main_v2 main_v3 addf,
    unary main_v3 main_v4 Host.tanh,
    binary main_v4 main_arg7 main_v5 (fun l r => Host.dotGeneral dot_S16384x256_S256x512_S16384x512_1_0_0_1_n_n none l r),
    unary main_arg8 main_v6 (broadcastInDim S1x512 ![1] bcast_S512_S1x512_1),
    unary main_v6 main_v7 (broadcastInDim S16384x512 ![0, 1] bcast_S1x512_S16384x512_0_1),
    binary main_v5 main_v7 main_v8 addf,
    binary main_v8 main_arg9 main_v9 (fun l r => Host.dotGeneral dot_S16384x512_S512x256_S16384x256_1_0_0_1_n_n none l r),
    unary main_arg10 main_v10 (broadcastInDim S1x256 ![1] bcast_S256_S1x256_1),
    unary main_v10 main_v11 (broadcastInDim S16384x256 ![0, 1] bcast_S1x256_S16384x256_0_1),
    binary main_v9 main_v11 main_v12 addf ]

/-- The squared distances to the codebook rows. -/
abbrev distOps : List (HloOp τ sig (Elt F)) :=
  [ binary main_v12 main_v12 main_v13 mulf,
    nullary main_cst (constant S_ .f32 0x00000000#32),
    binary main_v13 main_cst main_v14 (fun x v => Host.reduceAdd x v reducesTo_S16384x256_S16384_d1 h_S_),
    unary main_v14 main_v15 (broadcastInDim S16384x1 ![0] bcast_S16384_S16384x1_0),
    binary main_arg11 main_arg11 main_v16 mulf,
    nullary main_cst_0 (constant S_ .f32 0x00000000#32),
    binary main_v16 main_cst_0 main_v17 (fun x v => Host.reduceAdd x v reducesTo_S10x256_S10_d1 h_S_),
    unary main_v17 main_v18 (broadcastInDim S1x10 ![1] bcast_S10_S1x10_1),
    unary main_v15 main_v19 (broadcastInDim S16384x10 ![0, 1] bcast_S16384x1_S16384x10_0_1),
    unary main_v18 main_v20 (broadcastInDim S16384x10 ![0, 1] bcast_S1x10_S16384x10_0_1),
    binary main_v19 main_v20 main_v21 addf,
    unary main_arg11 main_v22 (transpose S256x10 [1, 0] · transposes_S10x256_S256x10_1_0),
    binary main_v12 main_v22 main_v23 (fun l r => Host.dotGeneral dot_S16384x256_S256x10_S16384x10_1_0_0_1_n_n none l r),
    nullary main_cst_1 (constant S_ .f32 0x40000000#32),
    unary main_cst_1 main_v24 (broadcastInDim S16384x10 ![] bcast_S_S16384x10),
    binary main_v24 main_v23 main_v25 mulf,
    binary main_v21 main_v25 main_v26 subf ]

/-- The nearest codebook row's number. -/
abbrev pickOps : List (HloOp τ sig (Elt F)) :=
  [ nullary main_call0_v0 (iotaInDim S16384x10 32 1),
    nullary main_call0_cst (constant S_ .f32 0x7F800000#32),
    nullary main_call0_c (constantI S_ 32 0#32),
    quaternary main_v26 main_call0_v0 main_call0_cst main_call0_c main_call0_v1_0 (fun x y u v j => (Host.argReduce reducer_argmin_f32_i32 x y u v reducesTo_S16384x10_S16384_d1 h_S_ j).1),
    quaternary main_v26 main_call0_v0 main_call0_cst main_call0_c main_v27 (fun x y u v j => (Host.argReduce reducer_argmin_f32_i32 x y u v reducesTo_S16384x10_S16384_d1 h_S_ j).2) ]

/-- The codebook row of that number. -/
abbrev takeOps : List (HloOp τ sig (Elt F)) :=
  [ nullary main_call1_c (constantI S_ 32 0#32),
    unary main_call1_c main_call1_v0 (broadcastInDim S16384 ![] bcast_S_S16384),
    binary main_v27 main_call1_v0 main_call1_v1 (cmpi .slt),
    nullary main_call1_c_0 (constantI S_ 32 10#32),
    unary main_call1_c_0 main_call1_v2 (broadcastInDim S16384 ![] bcast_S_S16384),
    binary main_v27 main_call1_v2 main_call1_v3 addi,
    ternary main_call1_v1 main_call1_v3 main_v27 main_call1_v4 select,
    unary main_call1_v4 main_call1_v5 (broadcastInDim S16384x1 ![0] bcast_S16384_S16384x1_0),
    nullary main_call1_c_1 (constantI S1 32 9#32),
    nullary main_call1_c_2 (constantI S_ 32 0#32),
    unary main_call1_c_2 main_call1_v6 (broadcastInDim S16384x1 ![] bcast_S_S16384x1),
    binary main_call1_v5 main_call1_v6 main_call1_v7 (cmpi .sge),
    unary main_call1_c_1 main_call1_v8 (broadcastInDim S1x1 ![1] bcast_S1_S1x1_1),
    unary main_call1_v8 main_call1_v9 (broadcastInDim S16384x1 ![0, 1] bcast_S1x1_S16384x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S16384x1_S16384_d1 h_S_),
    binary main_arg11 main_call1_v5 main_call1_v13 (fun x i => Host.gather gather_S10x256_S16384x1_S16384x256_1_0_n_n_0_1_1256 x i),
    unary main_call1_v12 main_call1_v14 (broadcastInDim S16384x256 ![0] bcast_S16384_S16384x256_0),
    nullary main_call1_cst (constant S_ .f32 0x7FC00000#32),
    unary main_call1_cst main_call1_v15 (broadcastInDim S16384x256 ![] bcast_S_S16384x256),
    ternary main_call1_v14 main_call1_v13 main_call1_v15 main_v28 select ]

/-- The straight-through value and the decoder. -/
abbrev decOps : List (HloOp τ sig (Elt F)) :=
  [ binary main_v28 main_v12 main_v29 subf,
    binary main_v12 main_v29 main_v30 addf,
    binary main_v30 main_arg12 main_v31 (fun l r => Host.dotGeneral dot_S16384x256_S256x512_S16384x512_1_0_0_1_n_n none l r),
    unary main_arg13 main_v32 (broadcastInDim S1x512 ![1] bcast_S512_S1x512_1),
    unary main_v32 main_v33 (broadcastInDim S16384x512 ![0, 1] bcast_S1x512_S16384x512_0_1),
    binary main_v31 main_v33 main_v34 addf,
    binary main_v34 main_arg14 main_v35 (fun l r => Host.dotGeneral dot_S16384x512_S512x100_S16384x100_1_0_0_1_n_n none l r),
    unary main_arg15 main_v36 (broadcastInDim S1x100 ![1] bcast_S100_S1x100_1),
    unary main_v36 main_v37 (broadcastInDim S16384x100 ![0, 1] bcast_S1x100_S16384x100_0_1),
    binary main_v35 main_v37 main_v38 addf,
    unary main_v38 main_v39 Host.tanh,
    binary main_v39 main_arg16 main_v40 (fun l r => Host.dotGeneral dot_S16384x100_S100x256_S16384x256_1_0_0_1_n_n none l r),
    unary main_arg17 main_v41 (broadcastInDim S1x256 ![1] bcast_S256_S1x256_1),
    unary main_v41 main_v42 (broadcastInDim S16384x256 ![0, 1] bcast_S1x256_S16384x256_0_1),
    binary main_v40 main_v42 main_v43 addf,
    unary main_v43 main_v44 Host.tanh ]

/-- The dynamics network. -/
abbrev dynOps : List (HloOp τ sig (Elt F)) :=
  [ reshape main_v27 main_v45 (rfl : (.i32 : EltTy) = .i32) shapeCasts_S16384_S16384x1,
    unary main_v45 main_v46 (sitofp .f32),
    binary main_arg0 main_v46 main_v47 (fun a b => concatenate S16384x257 1 [⟨S16384x256, a⟩, ⟨S16384x1, b⟩] concatenates_S16384x256_S16384x1_S16384x257_d1),
    binary main_v47 main_arg18 main_v48 (fun l r => Host.dotGeneral dot_S16384x257_S257x512_S16384x512_1_0_0_1_n_n none l r),
    unary main_arg19 main_v49 (broadcastInDim S1x512 ![1] bcast_S512_S1x512_1),
    unary main_v49 main_v50 (broadcastInDim S16384x512 ![0, 1] bcast_S1x512_S16384x512_0_1),
    binary main_v48 main_v50 main_v51 addf,
    nullary main_call2_cst (constant S_ .f32 0x00000000#32),
    unary main_call2_cst main_call2_v0 (broadcastInDim S16384x512 ![] bcast_S_S16384x512),
    binary main_v51 main_call2_v0 main_v52 maximumf,
    binary main_v52 main_arg20 main_v53 (fun l r => Host.dotGeneral dot_S16384x512_S512x512_S16384x512_1_0_0_1_n_n none l r),
    unary main_arg21 main_v54 (broadcastInDim S1x512 ![1] bcast_S512_S1x512_1),
    unary main_v54 main_v55 (broadcastInDim S16384x512 ![0, 1] bcast_S1x512_S16384x512_0_1),
    binary main_v53 main_v55 main_v56 addf,
    nullary main_call3_cst (constant S_ .f32 0x00000000#32),
    unary main_call3_cst main_call3_v0 (broadcastInDim S16384x512 ![] bcast_S_S16384x512),
    binary main_v56 main_call3_v0 main_v57 maximumf,
    binary main_v57 main_arg22 main_v58 (fun l r => Host.dotGeneral dot_S16384x512_S512x512_S16384x512_1_0_0_1_n_n none l r),
    unary main_arg23 main_v59 (broadcastInDim S1x512 ![1] bcast_S512_S1x512_1),
    unary main_v59 main_v60 (broadcastInDim S16384x512 ![0, 1] bcast_S1x512_S16384x512_0_1),
    binary main_v58 main_v60 main_v61 addf,
    nullary main_call4_cst (constant S_ .f32 0x00000000#32),
    unary main_call4_cst main_call4_v0 (broadcastInDim S16384x512 ![] bcast_S_S16384x512),
    binary main_v61 main_call4_v0 main_v62 maximumf,
    unary main_v62 main_v63 Host.tanh,
    binary main_v63 main_arg24 main_v64 (fun l r => Host.dotGeneral dot_S16384x512_S512x64_S16384x64_1_0_0_1_n_n none l r),
    unary main_arg25 main_v65 (broadcastInDim S1x64 ![1] bcast_S64_S1x64_1),
    unary main_v65 main_v66 (broadcastInDim S16384x64 ![0, 1] bcast_S1x64_S16384x64_0_1),
    binary main_v64 main_v66 main_v67 addf ]

/-- The negative log-likelihood. -/
abbrev nllOps : List (HloOp τ sig (Elt F)) :=
  [ unary main_arg26 main_v68 Host.exp,
    binary main_arg2 main_v67 main_v69 subf,
    unary main_v68 main_v70 (broadcastInDim S1x64 ![1] bcast_S64_S1x64_1),
    unary main_v70 main_v71 (broadcastInDim S16384x64 ![0, 1] bcast_S1x64_S16384x64_0_1),
    binary main_v69 main_v71 main_v72 Host.divf,
    binary main_v72 main_v72 main_v73 mulf,
    nullary main_cst_2 (constant S_ .f32 0xBF000000#32),
    unary main_cst_2 main_v74 (broadcastInDim S16384x64 ![] bcast_S_S16384x64),
    binary main_v74 main_v73 main_v75 mulf,
    unary main_arg26 main_v76 (broadcastInDim S1x64 ![1] bcast_S64_S1x64_1),
    unary main_v76 main_v77 (broadcastInDim S16384x64 ![0, 1] bcast_S1x64_S16384x64_0_1),
    binary main_v75 main_v77 main_v78 subf,
    nullary main_cst_3 (constant S_ .f32 0x40C90FDB#32),
    unary main_cst_3 main_v79 Host.log,
    nullary main_cst_4 (constant S_ .f32 0x3F000000#32),
    binary main_cst_4 main_v79 main_v80 mulf,
    unary main_v80 main_v81 id,
    unary main_v81 main_v82 (broadcastInDim S16384x64 ![] bcast_S_S16384x64),
    binary main_v78 main_v82 main_v83 subf,
    nullary main_cst_5 (constant S_ .f32 0x00000000#32),
    binary main_v83 main_cst_5 main_v84 (fun x v => Host.reduceAdd x v reducesTo_S16384x64_S16384_d1 h_S_),
    unary main_v84 main_v85 Host.negf,
    nullary main_cst_6 (constant S_ .f32 0x3F800000#32),
    unary main_cst_6 main_v86 (broadcastInDim S16384 ![] bcast_S_S16384),
    binary main_v85 main_v86 main_v87 mulf ]

/-- The mean squared errors. -/
abbrev vqOps : List (HloOp τ sig (Elt F)) :=
  [ binary main_arg1 main_v44 main_v88 subf,
    binary main_v88 main_v88 main_v89 mulf,
    nullary main_cst_7 (constant S_ .f32 0x00000000#32),
    binary main_v89 main_cst_7 main_v90 (fun x v => Host.reduceAdd x v reducesTo_S16384x256_S_d0_1 h_S_),
    nullary main_cst_8 (constant S_ .f32 0x4A800000#32),
    binary main_v90 main_cst_8 main_v91 Host.divf,
    binary main_v12 main_v28 main_v92 subf,
    binary main_v92 main_v92 main_v93 mulf,
    nullary main_cst_9 (constant S_ .f32 0x00000000#32),
    binary main_v93 main_cst_9 main_v94 (fun x v => Host.reduceAdd x v reducesTo_S16384x256_S_d0_1 h_S_),
    nullary main_cst_10 (constant S_ .f32 0x4A800000#32),
    binary main_v94 main_cst_10 main_v95 Host.divf,
    binary main_v12 main_v28 main_v96 subf,
    binary main_v96 main_v96 main_v97 mulf,
    nullary main_cst_11 (constant S_ .f32 0x00000000#32),
    binary main_v97 main_cst_11 main_v98 (fun x v => Host.reduceAdd x v reducesTo_S16384x256_S_d0_1 h_S_),
    nullary main_cst_12 (constant S_ .f32 0x4A800000#32),
    binary main_v98 main_cst_12 main_v99 Host.divf,
    binary main_v91 main_v95 main_v100 addf,
    nullary main_cst_13 (constant S_ .f32 0x3F800000#32),
    binary main_cst_13 main_v99 main_v101 mulf,
    binary main_v100 main_v101 main_v102 addf ]

/-- The product of the two losses. -/
abbrev lossOps : List (HloOp τ sig (Elt F)) :=
  [ nullary main_cst_14 (constant S_ .f32 0x3F800000#32),
    binary main_v102 main_cst_14 main_v103 mulf,
    unary main_v103 main_v104 (broadcastInDim S16384 ![] bcast_S_S16384),
    binary main_v87 main_v104 main_v105 mulf ]

/-- The whole program's operations, in order. -/
abbrev ops : List (HloOp τ sig (Elt F)) :=
  encOps ++ (distOps ++ (pickOps ++ (takeOps ++ (decOps ++ (dynOps ++ (nllOps ++ (vqOps ++ (lossOps))))))))

set_option maxHeartbeats 40000000 in
set_option maxRecDepth 65536 in
/-- The program is that line. -/
theorem main_eq (c : Dev nD) : main (F := F) c = seq ops := rfl

set_option maxRecDepth 65536 in
/-- Every operation touches TensorCore references only. -/
theorem ops_sub : (ops : List (HloOp τ sig (Elt F))).Forall fun op => op.bufs ⊆ tcRefs τ sig := by
  simp only [ops, encOps, distOps, pickOps, takeOps, decOps, dynOps, nllOps, vqOps, lossOps, List.cons_append,
    List.nil_append, List.Forall, unary_bufs_sub, nullary_bufs_sub, binary_bufs_sub, ternary_bufs_sub,
    quaternary_bufs_sub, reshape_bufs_sub, and_self]

/-- Nothing is scoped on this signature. -/
theorem scopedRefs_eq : (Finset.univ.filter fun b : Ref sig .tc => b.isScoped) = ∅ := by decide
/-- Nor is a semaphore. -/
theorem scopedSems_eq : (Finset.univ.filter fun sm : SemLoc sig => sm.isScoped .tc) = ∅ := by decide

/-- From any memory every execution ends, each buffer holding what the line leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, ∀ b : Ref sig .tc,
        r.2.mem ((c.tc : Thread nD τ).loc b) = after ops (launchContents m c) (Proc.devRef .tc b) :=
  run_seq scopedRefs_eq scopedSems_eq defs main (fun _ => ops (F := F)) main_eq (fun _ => ops_sub) m ρ

end Cert.Memo.Ref
-- ==== Proof.RefPick.lean ====
/-
  The reference's two choosing operations: the position of a row's least entry, and the table's row at a position.
-/
module

public import proofs.«01_k».proof.Proof.RefRun
public import proofs.«01_k».proof.Proof.Rows
public import proofs.«01_k».proof.Proof.Consts

@[expose] public section

noncomputable section

namespace Cert.Memo

open Idealize.ShloMosaic

/-- A code's number, read as a signed integer. -/
theorem toInt_code (c : Fin 10) : (BitVec.ofNat 32 c).toInt = (c : ℕ) := by
  revert c; decide

/-- A code's number as a float. -/
theorem sitofp_code (c : Fin 10) : FloatOps.sitofp (F := Ideal) .f32 (BitVec.ofNat 32 c) = (((c : ℕ) : ℝ) : EReal) := by
  show (((BitVec.ofNat 32 c).toInt : ℝ) : EReal) = _
  rw [toInt_code]; simp

end Cert.Memo

namespace Cert.Memo.Ref

open Cert.ReferenceIdeal Cert.ReferenceIdeal.Gen
open Idealize.ShloMosaic Idealize.ShloMosaic.StableHlo

/-- The order of pairs of an entry and its position. -/
def Before (a b : EReal × BitVec 32) : Prop := a.1 < b.1 ∨ (a.1 = b.1 ∧ a.2.toInt ≤ b.2.toInt)

theorem Before.refl (a : EReal × BitVec 32) : Before a a := Or.inr ⟨rfl, le_rfl⟩

theorem Before.trans {a b c : EReal × BitVec 32} (h : Before a b) (k : Before b c) : Before a c := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- The step keeps one of its two pairs, the smaller one. -/
theorem step_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have key : reducer_argmin_f32_i32 (F := Ideal) (x, i) (y, j)
      = if x < y ∨ (x = y ∧ i.toInt < j.toInt) then (x, i) else (y, j) := by
    by_cases h1 : x < y
    · simp [reducer_argmin_f32_i32, Ideal.cmpf_def, Ideal.cmp, IntOp.ori, IntOp.andi, Scalar.select, h1, h1.ne]
    · by_cases h2 : x = y
      · subst h2
        by_cases h3 : i.toInt < j.toInt <;>
          simp [reducer_argmin_f32_i32, Ideal.cmpf_def, Ideal.cmp, IntOp.ori, IntOp.andi, IntOp.cmpi, Scalar.select,
            BitVec.slt, h3]
      · simp [reducer_argmin_f32_i32, Ideal.cmpf_def, Ideal.cmp, IntOp.ori, IntOp.andi, Scalar.select, h1, h2]
  rw [key]
  split_ifs with h
  · refine ⟨Or.inl rfl, Before.refl _, ?_⟩
    rcases h with h | ⟨h, h'⟩
    · exact Or.inl h
    · exact Or.inr ⟨h, h'.le⟩
  · refine ⟨Or.inr rfl, ?_, Before.refl _⟩
    rw [not_or, not_lt] at h
    rcases h.1.lt_or_eq with g | g
    · exact Or.inl g
    · exact Or.inr ⟨g, not_lt.1 fun q => h.2 ⟨g.symm, q⟩⟩

/-- The fold of the step over a list keeps the smallest pair. -/
theorem fold_spec (l : List (EReal × BitVec 32)) (a : EReal × BitVec 32) :
    l.foldl (reducer_argmin_f32_i32 (F := Ideal)) a ∈ a :: l
      ∧ ∀ q ∈ a :: l, Before (l.foldl (reducer_argmin_f32_i32 (F := Ideal)) a) q := by
  induction l generalizing a with
  | nil => simp [Before.refl]
  | cons b l ih =>
    obtain ⟨hm, hb⟩ := ih (reducer_argmin_f32_i32 (F := Ideal) a b)
    obtain ⟨h1, h2, h3⟩ := step_spec a b
    rw [List.foldl_cons]
    refine ⟨?_, ?_⟩
    · rcases List.mem_cons.1 hm with h | h
      · rw [h]; rcases h1 with h1 | h1 <;> simp [h1]
      · simp [h]
    · have h0 := hb _ List.mem_cons_self
      intro q hq
      rcases List.mem_cons.1 hq with rfl | hq
      · exact h0.trans h2
      · rcases List.mem_cons.1 hq with rfl | hq
        · exact h0.trans h3
        · exact hb _ (List.mem_cons_of_mem _ hq)

/-- The smallest pair of a row's entries and their positions has the position of the row's first least entry. -/
theorem smallest_code (s : Fin 10 → EReal) (p : EReal × BitVec 32)
    (hm : p = (⊤, 0#32) ∨ ∃ k : Fin 10, p = (s k, BitVec.ofNat 32 k))
    (hb : ∀ k : Fin 10, Before p (s k, BitVec.ofNat 32 k)) : p.2 = BitVec.ofNat 32 (firstMin s) := by
  rcases hm with rfl | ⟨k, rfl⟩
  · have h0 : ∀ k, s k = ⊤ := fun k => by
      rcases hb k with h | ⟨h, -⟩
      · exact absurd h not_top_lt
      · exact h.symm
    have : firstMin s = 0 := le_antisymm (firstMin_first _ _ fun i => by rw [h0, h0]) (Fin.zero_le _)
    rw [this]; rfl
  · have hk : ∀ i, s k ≤ s i := fun i => by
      rcases hb i with h | ⟨h, -⟩
      · exact h.le
      · exact le_of_eq h
    have h1 : firstMin s ≤ k := firstMin_first _ _ hk
    have h2 : k ≤ firstMin s := by
      rcases hb (firstMin s) with h | ⟨-, h⟩
      · exact absurd h (not_lt.2 (firstMin_le s k))
      · simp only [toInt_code] at h
        exact Fin.le_def.2 (by exact_mod_cast h)
    rw [le_antisymm h1 h2]

/-- The position the reference picks in a row. -/
theorem argmin_row (D : Mat 16384 10) (r : Fin 16384) :
    (Host.argReduce (reducer_argmin_f32_i32 (F := Ideal)) D (iotaInDim S16384x10 32 1)
      (constant (F := Ideal) S_ .f32 0x7F800000#32) (constantI S_ 32 0#32) reducesTo_S16384x10_S16384_d1 h_S_ (ix1 r)).2
      = BitVec.ofNat 32 (firstMin (row D r)) := by
  rw [Ideal.argReduce_eq_reduce2, Host.reduce2_eq_foldl_fiber]
  obtain ⟨hm, hb⟩ := fold_spec (Host.argReduceFiber D (iotaInDim S16384x10 32 1) reducesTo_S16384x10_S16384_d1 (ix1 r))
    (constant (F := Ideal) S_ .f32 0x7F800000#32 (Shape.Idx.first h_S_), constantI S_ 32 0#32 (Shape.Idx.first h_S_))
  have mem : ∀ q : EReal × BitVec 32,
      q ∈ Host.argReduceFiber D (iotaInDim S16384x10 32 1) reducesTo_S16384x10_S16384_d1 (ix1 r)
        ↔ ∃ k : Fin 10, q = (row D r k, BitVec.ofNat 32 k) := by
    intro q
    unfold Host.argReduceFiber
    simp only [List.mem_map, List.mem_filter, List.mem_finRange, true_and, decide_eq_true_eq]
    constructor
    · rintro ⟨n, hn, rfl⟩
      obtain ⟨k, hk⟩ := (Shape.ReducesTo.fiber_r2_a1 _ _ _).1 hn
      refine ⟨k, ?_⟩
      rw [← hk]; rfl
    · rintro ⟨k, rfl⟩
      refine ⟨S16384x10.rowMajor (ix2 r k), ?_, ?_⟩
      · rw [Equiv.symm_apply_apply]
        exact (Shape.ReducesTo.fiber_r2_a1 _ _ _).2 ⟨k, rfl⟩
      · rw [Equiv.symm_apply_apply]; rfl
  refine smallest_code (row D r) _ ?_ fun k => hb _ (List.mem_cons_of_mem _ ((mem _).2 ⟨k, rfl⟩))
  rcases List.mem_cons.1 hm with h | h
  · left; rw [h]
    exact Prod.ext word_top rfl
  · right; exact (mem _).1 h

/-- The table's row the reference reads where the start index is a code's number. -/
theorem gather_row (T : Mat 10 256) (C : IVec S16384x1 32) (r : Fin 16384) (c : Fin 10)
    (h : C (ix2 r 0) = BitVec.ofNat 32 c) (l : Fin 256) :
    Host.gather gather_S10x256_S16384x1_S16384x256_1_0_n_n_0_1_1256 T C (ix2 r l) = T (ix2 c l) := by
  unfold Host.gather
  congr 1
  have hsi : gather_S10x256_S16384x1_S16384x256_1_0_n_n_0_1_1256.siIdx (ix2 r l) ⟨0, by decide⟩ = ix2 r 0 := by
    funext b; refine Fin.ext ?_
    match b with
    | ⟨0, _⟩ => rfl
    | ⟨1, _⟩ => rfl
  funext a
  refine Fin.ext ?_
  match a with
  | ⟨0, _⟩ =>
    show min (C (gather_S10x256_S16384x1_S16384x256_1_0_n_n_0_1_1256.siIdx (ix2 r l) ⟨0, by decide⟩)).toInt.toNat 9 + 0 + 0 = (c : ℕ)
    rw [hsi, h, toInt_code]
    have := c.isLt
    simp; omega
  | ⟨1, _⟩ => show 0 + 0 + (l : ℕ) = (l : ℕ); omega

/-- The mask's row, all of one entry. -/
theorem mask_row (x : IVec S16384x1 1) (r : Fin 16384) (h : x (ix2 r 0) = 1#1) :
    Host.reduce IntOp.andi x (constantI S_ 1 1#1) reducesTo_S16384x1_S16384_d1 h_S_ (ix1 r) = 1#1 := by
  rw [Host.reduce_eq_fold, Shape.ReducesTo.fold_fiber_r2_a1, Finset.univ_unique, Finset.fold_singleton]
  show IntOp.andi (x (ix2 r 0)) 1#1 = 1#1
  rw [h]; rfl

/-- The mask the reference puts around its table read is true at a code's number, and the number it reads is
    the code's. -/
theorem code_inside (c : Fin 10) :
    Scalar.select (IntOp.cmpi .slt (BitVec.ofNat 32 c) 0#32) (IntOp.addi (BitVec.ofNat 32 c) 10#32) (BitVec.ofNat 32 c)
      = BitVec.ofNat 32 c
    ∧ IntOp.andi (IntOp.cmpi .sge (BitVec.ofNat 32 c) 0#32) (IntOp.cmpi .sle (BitVec.ofNat 32 c) 9#32) = 1#1 := by
  revert c; decide

end Cert.Memo.Ref
-- ==== Proof.RefVal.lean ====
/-
  What each stage of the reference leaves, read at one row: the stage's array at row `r` as a function of row `r` of
  the arrays it reads.
-/
module

public import proofs.«01_k».proof.Proof.RefPick

@[expose] public section

noncomputable section

namespace Cert.Memo.Ref

open Cert.ReferenceIdeal Cert.ReferenceIdeal.Gen
open Idealize.ShloMosaic Idealize.ShloMosaic.TcCoe Idealize.ShloMosaic.StableHlo Idealize.SL.Sem

/-- Buffer contents of the reference program, over the extended reals. -/
local notation "Contents" => Valuation τ sig (Elt Ideal)

/-- The weights among the contents. -/
def par (V : Contents) : Params where
  veW1 := V (main_arg5 : DevRef τ sig)
  veB1 := V (main_arg6 : DevRef τ sig)
  veW2 := V (main_arg7 : DevRef τ sig)
  veB2 := V (main_arg8 : DevRef τ sig)
  preW := V (main_arg9 : DevRef τ sig)
  preB := V (main_arg10 : DevRef τ sig)
  emb := V (main_arg11 : DevRef τ sig)
  postW := V (main_arg12 : DevRef τ sig)
  postB := V (main_arg13 : DevRef τ sig)
  vdW1 := V (main_arg14 : DevRef τ sig)
  vdB1 := V (main_arg15 : DevRef τ sig)
  vdW2 := V (main_arg16 : DevRef τ sig)
  vdB2 := V (main_arg17 : DevRef τ sig)
  dW1 := V (main_arg18 : DevRef τ sig)
  dB1 := V (main_arg19 : DevRef τ sig)
  dW2 := V (main_arg20 : DevRef τ sig)
  dB2 := V (main_arg21 : DevRef τ sig)
  dW3 := V (main_arg22 : DevRef τ sig)
  dB3 := V (main_arg23 : DevRef τ sig)
  dW4 := V (main_arg24 : DevRef τ sig)
  dB4 := V (main_arg25 : DevRef τ sig)
  logStd := V (main_arg26 : DevRef τ sig)

/-- The batch of states. -/
def xs (V : Contents) : Mat 16384 256 := V (main_arg0 : DevRef τ sig)
/-- The batch of state changes. -/
def dxs (V : Contents) : Mat 16384 256 := V (main_arg1 : DevRef τ sig)
/-- The batch of actions. -/
def acts (V : Contents) : Mat 16384 64 := V (main_arg2 : DevRef τ sig)

/-- The encoder's stage. -/
theorem enc_read (V : Contents) (r : Fin 16384) (l : Fin 256) :
    (after encOps V (main_v12 : DevRef τ sig) : Mat 16384 256) (ix2 r l) = enc (par V) (row (dxs V) r) l := by
  after_reads_simp
  pointwise [enc, lin, tanhs, row, par, dxs]

/-- The distances' stage, from the codes `E`. -/
theorem dist_read (V : Contents) (E : Mat 16384 256) (hE : V (main_v12 : DevRef τ sig) = E) (r : Fin 16384)
    (l : Fin 10) :
    (after distOps V (main_v26 : DevRef τ sig) : Mat 16384 10) (ix2 r l) = dist (par V) (row E r) l := by
  after_reads_simp
  pointwise [dist, row, par, embSq, inner, hE, word_two]

/-- The pick's stage, from the distances `D`. -/
theorem pick_read (V : Contents) (D : Mat 16384 10) (hD : V (main_v26 : DevRef τ sig) = D) (r : Fin 16384) :
    (after pickOps V (main_v27 : DevRef τ sig) : IVec S16384 32) (ix1 r) = BitVec.ofNat 32 (firstMin (row D r)) := by
  after_reads_simp
  rw [hD]
  exact argmin_row D r

/-- The table's stage, from the codes' numbers `C`. -/
theorem take_read (V : Contents) (C : IVec S16384 32) (hC : V (main_v27 : DevRef τ sig) = C) (r : Fin 16384)
    (c : Fin 10) (h : C (ix1 r) = BitVec.ofNat 32 c) (l : Fin 256) :
    (after takeOps V (main_v28 : DevRef τ sig) : Mat 16384 256) (ix2 r l) = (par V).emb (ix2 c l) := by
  after_reads_simp
  obtain ⟨h1, h2⟩ := code_inside c
  pointwise [hC]
  rw [gather_row (c := c)]
  · rw [mask_row]
    · rfl
    · pointwise [h, h1, h2]
  · pointwise [h, h1]

/-- The decoder's stage, from the codes `E` and the codebook rows `Q` chosen. -/
theorem dec_read (V : Contents) (E Q : Mat 16384 256) (hE : V (main_v12 : DevRef τ sig) = E)
    (hQ : V (main_v28 : DevRef τ sig) = Q) (r : Fin 16384) (l : Fin 256) :
    (after decOps V (main_v44 : DevRef τ sig) : Mat 16384 256) (ix2 r l)
      = decode (par V) (fun k => E (ix2 r k) + (Q (ix2 r k) - E (ix2 r k))) l := by
  after_reads_simp
  pointwise [decode, lin, tanhs, par, hE, hQ]

/-- The dynamics network's stage, from the codes' numbers `C`. -/
theorem dyn_read (V : Contents) (C : IVec S16384 32) (hC : V (main_v27 : DevRef τ sig) = C) (r : Fin 16384)
    (c : Fin 10) (h : C (ix1 r) = BitVec.ofNat 32 c) (l : Fin 64) :
    (after dynOps V (main_v67 : DevRef τ sig) : Mat 16384 64) (ix2 r l)
      = dynTail (par V) (dynHead (par V) (row (xs V) r) c) l := by
  after_reads_simp
  pointwise [dynTail, dynHead, relu, lin, tanhs, row, par, xs]
  after_reads_simp
  pointwise [hC, h, sitofp_code]
  simp only [Finset.sum_const, Finset.card_univ, Fintype.card_fin, one_smul]
  rfl

/-- Half the logarithm of the rounded `2 pi`. -/
theorem half_log : Ideal.ofBits .f32 0x3F000000#32 * Ideal.log (Ideal.ofBits .f32 0x40C90FDB#32)
    = ((Real.log (13176795 / 2097152) / 2 : ℝ) : EReal) := by
  rw [word_half, word_two_pi]
  show ((1 / 2 : ℝ) : EReal) * (if (13176795 / 2097152 : ℝ) ≤ 0 then ⊥ else ((Real.log (13176795 / 2097152) : ℝ) : EReal)) = _
  rw [if_neg (by norm_num), ← EReal.coe_mul]
  congr 1; ring

/-- The likelihood's stage, from the means `M`. -/
theorem nll_read (V : Contents) (M : Mat 16384 64) (hM : V (main_v67 : DevRef τ sig) = M) (r : Fin 16384) :
    (after nllOps V (main_v87 : DevRef τ sig) : Arr 16384) (ix1 r)
      = nll (par V) (fun j => acts V (ix2 r j) - M (ix2 r j)) := by
  after_reads_simp
  pointwise [nll, par, acts, hM, word_neg_half, id, half_log]

/-- The mean squared errors' stage. -/
theorem vq_read (V : Contents) (E Q R : Mat 16384 256) (hE : V (main_v12 : DevRef τ sig) = E)
    (hQ : V (main_v28 : DevRef τ sig) = Q) (hR : V (main_v44 : DevRef τ sig) = R) :
    (after vqOps V (main_v102 : DevRef τ sig) : FVec Ideal S_ .f32) ix0
      = Ideal.div (∑ r, sqDist (row (dxs V) r) (row R r)) ((4194304 : ℝ) : EReal)
        + Ideal.div (∑ r, sqDist (row E r) (row Q r)) ((4194304 : ℝ) : EReal)
        + Ideal.div (∑ r, sqDist (row E r) (row Q r)) ((4194304 : ℝ) : EReal) := by
  after_reads_simp
  pointwise [sqDist, row, dxs, hE, hQ, hR, word_2p22]

/-- The product's stage, from the two losses. -/
theorem loss_read (V : Contents) (N : Arr 16384) (v : FVec Ideal S_ .f32) (hN : V (main_v87 : DevRef τ sig) = N)
    (hv : V (main_v102 : DevRef τ sig) = v) (r : Fin 16384) :
    (after lossOps V (main_v105 : DevRef τ sig) : Arr 16384) (ix1 r) = N (ix1 r) * v ix0 := by
  after_reads_simp
  pointwise [hN, hv]

end Cert.Memo.Ref
-- ==== Proof.RowLaws.lean ====
/-
  The laws over the extended reals by which the two programs agree on a row: where the encoder's last two layers and the
  log-deviations are real numbers, the nearest codebook row is the one of least score, the straight-through value is the
  codebook row, and the two forms of the negative log-likelihood are one. And the law of the two forms of the scale.
-/
module

public import proofs.«01_k».proof.Proof.Rows

@[expose] public section

noncomputable section

open Idealize.ShloMosaic

namespace Cert.Memo

/-! ### Real entries -/

/-- An extended real that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A sum of real numbers is the sum of them as extended reals. -/
theorem coe_sum {n : ℕ} (g : Fin n → ℝ) (A : Finset (Fin n)) :
    ((∑ k ∈ A, g k : ℝ) : EReal) = ∑ k ∈ A, (g k : EReal) := by
  induction A using Finset.induction_on with
  | empty => rfl
  | insert a A ha ih => rw [Finset.sum_insert ha, Finset.sum_insert ha, EReal.coe_add, ih]
theorem IsReal.sum {n : ℕ} {f : Fin n → EReal} (h : ∀ k, IsReal (f k)) : IsReal (∑ k, f k) := by
  choose g hg using h
  exact ⟨∑ k, g k, by simp only [hg, coe_sum]⟩
/-- The hyperbolic tangent is real everywhere. -/
theorem isReal_tanh (x : EReal) : IsReal (Ideal.tanh x) := by
  induction x with
  | bot => exact ⟨-1, rfl⟩
  | top => exact ⟨1, rfl⟩
  | coe r => exact ⟨Real.tanh r, rfl⟩
/-- What lies below plus infinity in absolute value is real. -/
theorem isReal_of_abs_lt {x : EReal} (h : max x (-x) < ⊤) : IsReal x := by
  induction x with
  | bot => simp at h
  | top => simp at h
  | coe r => exact ⟨r, rfl⟩

/-- An affine layer of real weights takes a real row to a real row. -/
theorem isReal_lin {k n : ℕ} {W : Mat k n} {b : Arr n} {x : Fin k → EReal} (hW : ∀ i, IsReal (W i))
    (hb : ∀ i, IsReal (b i)) (hx : ∀ i, IsReal (x i)) (j : Fin n) : IsReal (lin W b x j) :=
  (IsReal.sum fun _ => (hx _).mul (hW _)).add (hb _)

/-- The weights the two programs' agreement needs to be real. -/
structure Params.Real (p : Params) : Prop where
  veW2 : ∀ i, IsReal (p.veW2 i)
  veB2 : ∀ i, IsReal (p.veB2 i)
  preW : ∀ i, IsReal (p.preW i)
  preB : ∀ i, IsReal (p.preB i)
  logStd : ∀ i, IsReal (p.logStd i)

/-- The encoder's output is real, whatever its input. -/
theorem isReal_enc {p : Params} (h : p.Real) (d : Fin 256 → EReal) (k : Fin 256) : IsReal (enc p d k) :=
  isReal_lin h.preW h.preB (isReal_lin h.veW2 h.veB2 fun _ => isReal_tanh _) k

/-! ### The nearest codebook row -/

/-- Adding one real number keeps the order. -/
theorem real_add_le {e x y : EReal} (he : IsReal e) : e + x ≤ e + y ↔ x ≤ y := by
  obtain ⟨r, rfl⟩ := he
  have back : ∀ z : EReal, ((-r : ℝ) : EReal) + ((r : EReal) + z) = z := fun z => by
    rw [← add_assoc, ← EReal.coe_add, neg_add_cancel, EReal.coe_zero, zero_add]
  exact ⟨fun h => by simpa only [back] using add_le_add (le_refl ((-r : ℝ) : EReal)) h, fun h => add_le_add le_rfl h⟩

/-- The code of the reference: the first codebook row at the least squared distance. -/
def codeR (p : Params) (d : Fin 256 → EReal) : Fin 10 := firstMin (dist p (enc p d))

/-- The least distance is where the least score is: they differ by the code's own squared norm. -/
theorem codeR_eq {p : Params} (h : p.Real) (d : Fin 256 → EReal) : codeR p d = code p d := by
  refine firstMin_congr fun i j => ?_
  have e : ∀ l, dist p (enc p d) l = (∑ k, enc p d k * enc p d k) + score p (enc p d) l := fun l => by
    simp only [dist, score, sub_eq_add_neg, add_assoc]
  rw [e, e]
  exact real_add_le (IsReal.sum fun k => (isReal_enc h d k).mul (isReal_enc h d k))

/-- The straight-through value: the code, plus its difference from the codebook row. -/
def through (p : Params) (d : Fin 256 → EReal) : Fin 256 → EReal := fun k =>
  enc p d k + (p.emb (ix2 (codeR p d) k) - enc p d k)

/-- It is the codebook row. -/
theorem through_eq {p : Params} (h : p.Real) (d : Fin 256 → EReal) : through p d = quant p d := by
  funext k
  unfold through quant
  rw [codeR_eq h]
  obtain ⟨r, hr⟩ := isReal_enc h d k
  rw [hr, sub_eq_add_neg, add_left_comm, ← EReal.coe_neg, ← EReal.coe_add, add_neg_cancel, EReal.coe_zero, add_zero]

/-! ### Squares -/

/-- A square is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)
/-- Nor is a squared distance. -/
theorem sqDist_nonneg (x y : Fin 256 → EReal) : 0 ≤ sqDist x y := Finset.sum_nonneg fun _ _ => sq_nonneg' _

/-! ### The negative log-likelihood -/

/-- Dividing by an exponential is multiplying by the exponential of the negative. -/
theorem div_exp (v l : EReal) (h : IsReal l) : Ideal.div v (Ideal.exp l) = v * Ideal.exp (0 - l) := by
  obtain ⟨r, rfl⟩ := h
  rw [zero_sub, ← EReal.coe_neg]
  show Ideal.div v ((Real.exp r : ℝ) : EReal) = v * ((Real.exp (-r) : ℝ) : EReal)
  unfold Ideal.div
  rw [if_neg (by exact_mod_cast (Real.exp_pos r).ne'), Real.exp_neg, EReal.coe_inv]

/-- Minus a sum of negatives is the sum, where no term is minus infinity. -/
theorem neg_sum_neg {n : ℕ} (u : Fin n → EReal) (hu : ∀ k, u k ≠ ⊥) (A : Finset (Fin n)) :
    -(∑ k ∈ A, -u k) = ∑ k ∈ A, u k ∧ ∑ k ∈ A, u k ≠ ⊥ := by
  induction A using Finset.induction_on with
  | empty => simp
  | insert a A ha ih =>
    obtain ⟨h1, h2⟩ := ih
    rw [Finset.sum_insert ha, Finset.sum_insert ha]
    have h3 : ∑ k ∈ A, -u k = -∑ k ∈ A, u k := by rw [← h1, neg_neg]
    refine ⟨?_, fun h => ?_⟩
    · rw [h3, EReal.neg_add (Or.inr (by simpa using h2)) (Or.inl (by simpa using hu a)), sub_eq_add_neg, neg_neg,
        neg_neg]
    · rcases EReal.add_eq_bot_iff.1 h with h | h
      · exact hu a h
      · exact h2 h

/-- The two forms of the negative log-likelihood are one. -/
theorem nll_eq {p : Params} (h : p.Real) (v : Fin 64 → EReal) : nll p v = nllK p v := by
  choose l hl using fun j => h.logStd (ix1 j)
  set s : Fin 64 → EReal := fun j => (v j * Ideal.exp (0 - p.logStd (ix1 j))) * (v j * Ideal.exp (0 - p.logStd (ix1 j)))
    with hs
  have hs0 : ∀ j, 0 ≤ ((1 / 2 : ℝ) : EReal) * s j := fun j =>
    mul_nonneg (by exact_mod_cast (by norm_num : (0 : ℝ) ≤ 1 / 2)) (sq_nonneg' _)
  set w : ℝ := Real.log (13176795 / 2097152) with hw
  have hu : ∀ j, ((1 / 2 : ℝ) : EReal) * s j + ((l j + w / 2 : ℝ) : EReal) ≠ ⊥ := fun j e => by
    rcases EReal.add_eq_bot_iff.1 e with e | e
    · exact absurd (hs0 j) (by rw [e]; simp)
    · exact EReal.coe_ne_bot _ e
  have term : ∀ j, ((((-(1 / 2 : ℝ) : ℝ) : EReal)
      * (Ideal.div (v j) (Ideal.exp (p.logStd (ix1 j))) * Ideal.div (v j) (Ideal.exp (p.logStd (ix1 j))))
      - p.logStd (ix1 j)) - ((w / 2 : ℝ) : EReal))
      = -(((1 / 2 : ℝ) : EReal) * s j + ((l j + w / 2 : ℝ) : EReal)) := fun j => by
    rw [div_exp _ _ (h.logStd _), EReal.neg_add (Or.inr (EReal.coe_ne_top _)) (Or.inr (EReal.coe_ne_bot _)),
      hl j, EReal.coe_neg, EReal.neg_mul, EReal.coe_add]
    simp only [hs, hl j, sub_eq_add_neg]
    rw [← EReal.coe_neg, ← EReal.coe_neg, ← EReal.coe_add, ← EReal.coe_neg, neg_add, EReal.coe_add, add_assoc]
  unfold nll nllK
  rw [Finset.sum_congr rfl fun j _ => term j, (neg_sum_neg _ hu Finset.univ).1, Finset.sum_add_distrib]
  congr 1
  simp only [hl]
  rw [← coe_sum, ← coe_sum, ← EReal.coe_add, Finset.sum_add_distrib, Finset.sum_const, Finset.card_univ,
    Fintype.card_fin, nsmul_eq_mul]
  congr 2
  push_cast; ring

/-! ### The scale -/

/-- A sum repeated once per lane. -/
theorem sum_lanes_const {T n : ℕ} (x : Fin T → EReal) : ∑ t, ∑ _l : Fin n, x t = ((n : ℝ) : EReal) * ∑ t, x t := by
  rw [Finset.sum_comm, Finset.sum_const, Finset.card_univ, Fintype.card_fin, EReal.nsmul_eq_mul]
  rfl

/-- The two forms of the scale are one: blocks of rows summed, repeated once per lane and divided by the lanes, and the
    sums over all the rows. `g` places row `r` of block `t`. -/
theorem scale_eq {f e : Fin 16384 → EReal} (hf : ∀ r, 0 ≤ f r) (he : ∀ r, 0 ≤ e r) (g : Fin 8 → Fin 2048 → Fin 16384)
    (hg : ∀ t r, (g t r).val = t.val * 2048 + r.val) :
    Ideal.div (∑ r, f r) ((4194304 : ℝ) : EReal) + Ideal.div (∑ r, e r) ((4194304 : ℝ) : EReal)
      + Ideal.div (∑ r, e r) ((4194304 : ℝ) : EReal)
    = Ideal.div ((∑ t : Fin 8, ∑ _l : Fin 128, ∑ r, f (g t r)) + 2 * ∑ t : Fin 8, ∑ _l : Fin 128, ∑ r, e (g t r))
        ((128 : ℝ) : EReal) * ((1 / 4194304 : ℝ) : EReal) := by
  have tiles : ∀ u : Fin 16384 → EReal, ∑ t : Fin 8, ∑ _l : Fin 128, ∑ r, u (g t r) = ((128 : ℝ) : EReal) * ∑ r, u r := by
    intro u
    have h := sum_lanes_const (n := 128) fun t => ∑ r, u (g t r)
    rw [h, Fin.sum_univ_tiles 8 2048 (by norm_num) u]
    refine congrArg _ (Finset.sum_congr rfl fun t _ => Finset.sum_congr rfl fun r _ => congrArg u (Fin.ext ?_))
    rw [hg]
  rw [tiles, tiles]
  have hF : 0 ≤ ∑ r, f r := Finset.sum_nonneg fun r _ => hf r
  have hE : 0 ≤ ∑ r, e r := Finset.sum_nonneg fun r _ => he r
  generalize (∑ r, f r) = A at hF ⊢
  generalize (∑ r, e r) = B at hE ⊢
  have h128 : (0 : EReal) ≤ ((128 : ℝ) : EReal) := by exact_mod_cast (by norm_num : (0 : ℝ) ≤ 128)
  have h2 : (2 : EReal) = ((2 : ℝ) : EReal) := rfl
  have hc : (0 : EReal) ≤ ((1 / 4194304 : ℝ) : EReal) := by exact_mod_cast (by norm_num : (0 : ℝ) ≤ 1 / 4194304)
  have hi : (0 : EReal) ≤ ((128 : ℝ) : EReal)⁻¹ := EReal.inv_nonneg_of_nonneg h128
  have div22 : ∀ x : EReal, Ideal.div x ((4194304 : ℝ) : EReal) = x * ((1 / 4194304 : ℝ) : EReal) := fun x => by
    unfold Ideal.div
    rw [if_neg (by exact_mod_cast (by norm_num : (4194304 : ℝ) ≠ 0)), ← EReal.coe_inv, one_div]
  have div7 : ∀ x : EReal, Ideal.div x ((128 : ℝ) : EReal) = x * ((1 / 128 : ℝ) : EReal) := fun x => by
    unfold Ideal.div
    rw [if_neg (by exact_mod_cast (by norm_num : (128 : ℝ) ≠ 0)), ← EReal.coe_inv, one_div]
  have one : ∀ x : EReal, ((128 : ℝ) : EReal) * x * ((1 / 128 : ℝ) : EReal) = x := fun x => by
    rw [mul_comm ((128 : ℝ) : EReal), mul_assoc, ← EReal.coe_mul]; norm_num
  rw [div22, div22, div7, EReal.right_distrib_of_nonneg (mul_nonneg h128 hF)
      (mul_nonneg (by rw [h2]; exact_mod_cast (by norm_num : (0 : ℝ) ≤ 2)) (mul_nonneg h128 hE)), one, mul_assoc 2, one,
    EReal.right_distrib_of_nonneg hF (mul_nonneg (by rw [h2]; exact_mod_cast (by norm_num : (0 : ℝ) ≤ 2)) hE), add_assoc]
  congr 1
  rw [mul_assoc, ← one_add_one_eq_two, EReal.right_distrib_of_nonneg zero_le_one zero_le_one, one_mul]

end Cert.Memo
-- ==== Proof.RefChain.lean ====
/-
  The reference's buffers stage by stage: what each stage leaves alone, and the stages' results put together into the
  reference's five results, each entry a function of one row of its inputs.
-/
module

public import proofs.«01_k».proof.Proof.RefVal
public import proofs.«01_k».proof.Proof.RowLaws
public import Idealize.ShloMosaic.Lib.Quiescent
public import Idealize.ShloMosaic.Lib.StableHlo.RunHlo

@[expose] public section

noncomputable section

namespace Cert.Memo.Ref

open Cert.ReferenceIdeal Cert.ReferenceIdeal.Gen
open Idealize.ShloMosaic Idealize.ShloMosaic.TcCoe Idealize.ShloMosaic.StableHlo Idealize.SL.Sem

/-- Buffer contents of the reference program, over the extended reals. -/
local notation "Contents" => Valuation τ sig (Elt Ideal)

/-! ### What a stage leaves alone -/

/-- The program's arguments. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18,
   main_arg19, main_arg20, main_arg21, main_arg22, main_arg23, main_arg24, main_arg25, main_arg26]

/-- What the encoder writes. -/
abbrev encW : List (Ref sig .tc) :=
  [main_v0, main_v1, main_v2, main_v3, main_v4, main_v5, main_v6, main_v7, main_v8, main_v9, main_v10, main_v11,
   main_v12]
theorem enc_of (V : Contents) (r : Ref sig .tc) (h : r ∉ encW) :
    after encOps V (Proc.devRef .tc r) = V (Proc.devRef .tc r) :=
  after_of_writes_sub (W := encW) encOps V (forall_writes_sub_of_map rfl) h
/-- What the distances writes. -/
abbrev distW : List (Ref sig .tc) :=
  [main_v13, main_cst, main_v14, main_v15, main_v16, main_cst_0, main_v17, main_v18, main_v19, main_v20,
   main_v21, main_v22, main_v23, main_cst_1, main_v24, main_v25, main_v26]
theorem dist_of (V : Contents) (r : Ref sig .tc) (h : r ∉ distW) :
    after distOps V (Proc.devRef .tc r) = V (Proc.devRef .tc r) :=
  after_of_writes_sub (W := distW) distOps V (forall_writes_sub_of_map rfl) h
/-- What the pick writes. -/
abbrev pickW : List (Ref sig .tc) :=
  [main_call0_v0, main_call0_cst, main_call0_c, main_call0_v1_0, main_v27]
theorem pick_of (V : Contents) (r : Ref sig .tc) (h : r ∉ pickW) :
    after pickOps V (Proc.devRef .tc r) = V (Proc.devRef .tc r) :=
  after_of_writes_sub (W := pickW) pickOps V (forall_writes_sub_of_map rfl) h
/-- What the table writes. -/
abbrev takeW : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14,
   main_call1_cst, main_call1_v15, main_v28]
theorem take_of (V : Contents) (r : Ref sig .tc) (h : r ∉ takeW) :
    after takeOps V (Proc.devRef .tc r) = V (Proc.devRef .tc r) :=
  after_of_writes_sub (W := takeW) takeOps V (forall_writes_sub_of_map rfl) h
/-- What the decoder writes. -/
abbrev decW : List (Ref sig .tc) :=
  [main_v29, main_v30, main_v31, main_v32, main_v33, main_v34, main_v35, main_v36, main_v37, main_v38, main_v39,
   main_v40, main_v41, main_v42, main_v43, main_v44]
theorem dec_of (V : Contents) (r : Ref sig .tc) (h : r ∉ decW) :
    after decOps V (Proc.devRef .tc r) = V (Proc.devRef .tc r) :=
  after_of_writes_sub (W := decW) decOps V (forall_writes_sub_of_map rfl) h
/-- What the dynamics network writes. -/
abbrev dynW : List (Ref sig .tc) :=
  [main_v45, main_v46, main_v47, main_v48, main_v49, main_v50, main_v51, main_call2_cst, main_call2_v0,
   main_v52, main_v53, main_v54, main_v55, main_v56, main_call3_cst, main_call3_v0, main_v57, main_v58,
   main_v59, main_v60, main_v61, main_call4_cst, main_call4_v0, main_v62, main_v63, main_v64, main_v65,
   main_v66, main_v67]
theorem dyn_of (V : Contents) (r : Ref sig .tc) (h : r ∉ dynW) :
    after dynOps V (Proc.devRef .tc r) = V (Proc.devRef .tc r) :=
  after_of_writes_sub (W := dynW) dynOps V (forall_writes_sub_of_map rfl) h
/-- What the likelihood writes. -/
abbrev nllW : List (Ref sig .tc) :=
  [main_v68, main_v69, main_v70, main_v71, main_v72, main_v73, main_cst_2, main_v74, main_v75, main_v76,
   main_v77, main_v78, main_cst_3, main_v79, main_cst_4, main_v80, main_v81, main_v82, main_v83, main_cst_5,
   main_v84, main_v85, main_cst_6, main_v86, main_v87]
theorem nll_of (V : Contents) (r : Ref sig .tc) (h : r ∉ nllW) :
    after nllOps V (Proc.devRef .tc r) = V (Proc.devRef .tc r) :=
  after_of_writes_sub (W := nllW) nllOps V (forall_writes_sub_of_map rfl) h
/-- What the mean squared errors writes. -/
abbrev vqW : List (Ref sig .tc) :=
  [main_v88, main_v89, main_cst_7, main_v90, main_cst_8, main_v91, main_v92, main_v93, main_cst_9, main_v94,
   main_cst_10, main_v95, main_v96, main_v97, main_cst_11, main_v98, main_cst_12, main_v99, main_v100,
   main_cst_13, main_v101, main_v102]
theorem vq_of (V : Contents) (r : Ref sig .tc) (h : r ∉ vqW) :
    after vqOps V (Proc.devRef .tc r) = V (Proc.devRef .tc r) :=
  after_of_writes_sub (W := vqW) vqOps V (forall_writes_sub_of_map rfl) h
/-- What the product writes. -/
abbrev lossW : List (Ref sig .tc) :=
  [main_cst_14, main_v103, main_v104, main_v105]
theorem loss_of (V : Contents) (r : Ref sig .tc) (h : r ∉ lossW) :
    after lossOps V (Proc.devRef .tc r) = V (Proc.devRef .tc r) :=
  after_of_writes_sub (W := lossW) lossOps V (forall_writes_sub_of_map rfl) h

/-- Contents that agree on the arguments. -/
def Args (U V : Contents) : Prop := ∀ a ∈ argRefs, U (Proc.devRef .tc a) = V (Proc.devRef .tc a)

theorem Args.par {U V : Contents} (h : Args U V) : par U = par V := by
  unfold Ref.par
  rw [h main_arg5 (by decide), h main_arg6 (by decide), h main_arg7 (by decide), h main_arg8 (by decide), h
    main_arg9 (by decide), h main_arg10 (by decide), h main_arg11 (by decide), h main_arg12 (by decide), h
    main_arg13 (by decide), h main_arg14 (by decide), h main_arg15 (by decide), h main_arg16 (by decide), h
    main_arg17 (by decide), h main_arg18 (by decide), h main_arg19 (by decide), h main_arg20 (by decide), h
    main_arg21 (by decide), h main_arg22 (by decide), h main_arg23 (by decide), h main_arg24 (by decide), h
    main_arg25 (by decide), h main_arg26 (by decide)]
theorem Args.xs {U V : Contents} (h : Args U V) : xs U = xs V := h main_arg0 (by decide)
theorem Args.dxs {U V : Contents} (h : Args U V) : dxs U = dxs V := h main_arg1 (by decide)
theorem Args.acts {U V : Contents} (h : Args U V) : acts U = acts V := h main_arg2 (by decide)

/-- The contents after the stage of the encoder. -/
def encS (V : Contents) : Contents := after encOps V
/-- The contents after the stage of the distances. -/
def distS (V : Contents) : Contents := after distOps (encS V)
/-- The contents after the stage of the pick. -/
def pickS (V : Contents) : Contents := after pickOps (distS V)
/-- The contents after the stage of the table. -/
def takeS (V : Contents) : Contents := after takeOps (pickS V)
/-- The contents after the stage of the decoder. -/
def decS (V : Contents) : Contents := after decOps (takeS V)
/-- The contents after the stage of the dynamics network. -/
def dynS (V : Contents) : Contents := after dynOps (decS V)
/-- The contents after the stage of the likelihood. -/
def nllS (V : Contents) : Contents := after nllOps (dynS V)
/-- The contents after the stage of the mean squared errors. -/
def vqS (V : Contents) : Contents := after vqOps (nllS V)
/-- The contents after the stage of the product. -/
def lossS (V : Contents) : Contents := after lossOps (vqS V)

/-- The whole line leaves what the last stage does. -/
theorem after_ops (V : Contents) : after ops V = lossS V := by
  unfold lossS vqS nllS dynS decS takeS pickS distS encS
  simp only [ops, after_append]

theorem encS_args (V : Contents) : Args (encS V) V := fun a ha =>
  (enc_of V a (ListAll.forall_mem_of_all_decide (l := argRefs) (p := (· ∉ encW)) (by decide +kernel) a ha))
theorem distS_args (V : Contents) : Args (distS V) V := fun a ha =>
  (dist_of (encS V) a (ListAll.forall_mem_of_all_decide (l := argRefs) (p := (· ∉ distW)) (by decide +kernel) a ha)).trans (encS_args V a ha)
theorem pickS_args (V : Contents) : Args (pickS V) V := fun a ha =>
  (pick_of (distS V) a (ListAll.forall_mem_of_all_decide (l := argRefs) (p := (· ∉ pickW)) (by decide +kernel) a ha)).trans (distS_args V a ha)
theorem takeS_args (V : Contents) : Args (takeS V) V := fun a ha =>
  (take_of (pickS V) a (ListAll.forall_mem_of_all_decide (l := argRefs) (p := (· ∉ takeW)) (by decide +kernel) a ha)).trans (pickS_args V a ha)
theorem decS_args (V : Contents) : Args (decS V) V := fun a ha =>
  (dec_of (takeS V) a (ListAll.forall_mem_of_all_decide (l := argRefs) (p := (· ∉ decW)) (by decide +kernel) a ha)).trans (takeS_args V a ha)
theorem dynS_args (V : Contents) : Args (dynS V) V := fun a ha =>
  (dyn_of (decS V) a (ListAll.forall_mem_of_all_decide (l := argRefs) (p := (· ∉ dynW)) (by decide +kernel) a ha)).trans (decS_args V a ha)
theorem nllS_args (V : Contents) : Args (nllS V) V := fun a ha =>
  (nll_of (dynS V) a (ListAll.forall_mem_of_all_decide (l := argRefs) (p := (· ∉ nllW)) (by decide +kernel) a ha)).trans (dynS_args V a ha)
theorem vqS_args (V : Contents) : Args (vqS V) V := fun a ha =>
  (vq_of (nllS V) a (ListAll.forall_mem_of_all_decide (l := argRefs) (p := (· ∉ vqW)) (by decide +kernel) a ha)).trans (nllS_args V a ha)
theorem lossS_args (V : Contents) : Args (lossS V) V := fun a ha =>
  (loss_of (vqS V) a (ListAll.forall_mem_of_all_decide (l := argRefs) (p := (· ∉ lossW)) (by decide +kernel) a ha)).trans (vqS_args V a ha)

end Cert.Memo.Ref
-- ==== Proof.RefResults.lean ====
/-
  The reference's five results, each entry a function of one row of its inputs (and of the sums over all the rows), and
  its arguments at the end.
-/
module

public import proofs.«01_k».proof.Proof.RefChain

@[expose] public section

noncomputable section

namespace Cert.Memo.Ref

open Cert.ReferenceIdeal Cert.ReferenceIdeal.Gen
open Idealize.ShloMosaic Idealize.ShloMosaic.TcCoe Idealize.ShloMosaic.StableHlo Idealize.SL.Sem

/-- Buffer contents of the reference program, over the extended reals. -/
local notation "Contents" => Valuation τ sig (Elt Ideal)

variable (V : Contents)

/-! ### The rows of the intermediate arrays -/

/-- The codes. -/
def codesR : Mat 16384 256 := fun i => enc (par V) (row (dxs V) (i 0)) (i 1)
/-- The nearest codebook row's number. -/
def numR (r : Fin 16384) : Fin 10 := codeR (par V) (row (dxs V) r)
/-- The numbers as words. -/
def numsR : IVec S16384 32 := fun i => BitVec.ofNat 32 (numR V (i 0))
/-- The codebook rows taken. -/
def takenR : Mat 16384 256 := fun i => (par V).emb (ix2 (numR V (i 0)) (i 1))
/-- The reconstructions. -/
def decR : Mat 16384 256 := fun i => decode (par V) (through (par V) (row (dxs V) (i 0))) (i 1)
/-- The means of the actions. -/
def meanR : Mat 16384 64 := fun i => dynTail (par V) (dynHead (par V) (row (xs V) (i 0)) (numR V (i 0))) (i 1)
/-- The negative log-likelihoods. -/
def nllR : Arr 16384 := fun i => nll (par V) fun j => acts V (ix2 (i 0) j) - meanR V (ix2 (i 0) j)
/-- The scale. -/
def scaleR : EReal :=
  Ideal.div (∑ r, sqDist (row (dxs V) r) (row (decR V) r)) ((4194304 : ℝ) : EReal)
    + Ideal.div (∑ r, sqDist (row (codesR V) r) (row (takenR V) r)) ((4194304 : ℝ) : EReal)
    + Ideal.div (∑ r, sqDist (row (codesR V) r) (row (takenR V) r)) ((4194304 : ℝ) : EReal)

/-- Two matrices that agree entry by entry. -/
theorem mat_ext {a b : ℕ} {A B : Mat a b} (h : ∀ r l, A (ix2 r l) = B (ix2 r l)) : A = B := by
  funext i
  have e : i = ix2 (i 0) (i 1) := by funext k; match k with | ⟨0, _⟩ => rfl | ⟨1, _⟩ => rfl
  rw [e]; exact h _ _
/-- Two vectors that agree entry by entry. -/
theorem arr_ext {a : ℕ} {α : Type} {A B : (⟨1, ![a]⟩ : Shape).Idx → α} (h : ∀ r, A (ix1 r) = B (ix1 r)) : A = B := by
  funext i
  have e : i = ix1 (i 0) := by funext k; match k with | ⟨0, _⟩ => rfl
  rw [e]; exact h _

/-! ### Stage by stage -/

theorem enc_codes : encS V (main_v12 : DevRef τ sig) = codesR V := mat_ext fun r l => enc_read V r l
theorem dist_codes : distS V (main_v12 : DevRef τ sig) = codesR V := (dist_of _ main_v12 (by decide)).trans (enc_codes V)
theorem pick_codes : pickS V (main_v12 : DevRef τ sig) = codesR V := (pick_of _ main_v12 (by decide)).trans (dist_codes V)
theorem take_codes : takeS V (main_v12 : DevRef τ sig) = codesR V := (take_of _ main_v12 (by decide)).trans (pick_codes V)
theorem nll_codes : nllS V (main_v12 : DevRef τ sig) = codesR V :=
  (((nll_of _ main_v12 (by decide)).trans (dyn_of _ main_v12 (by decide))).trans (dec_of _ main_v12 (by decide))).trans
    (take_codes V)

/-- The distances of every code. -/
theorem dist_dists : distS V (main_v26 : DevRef τ sig)
    = (fun i => dist (par V) (enc (par V) (row (dxs V) (i 0))) (i 1) : Mat 16384 10) :=
  mat_ext fun r l => (dist_read (encS V) (codesR V) (enc_codes V) r l).trans (by rw [(encS_args V).par]; rfl)

theorem pick_nums : pickS V (main_v27 : DevRef τ sig) = numsR V :=
  arr_ext fun r => (pick_read (distS V) _ (dist_dists V) r).trans rfl
theorem dec_nums : decS V (main_v27 : DevRef τ sig) = numsR V :=
  ((dec_of _ main_v27 (by decide)).trans (take_of _ main_v27 (by decide))).trans (pick_nums V)
theorem loss_nums : lossS V (main_v27 : DevRef τ sig) = numsR V :=
  ((((loss_of _ main_v27 (by decide)).trans (vq_of _ main_v27 (by decide))).trans (nll_of _ main_v27 (by decide))).trans
    (dyn_of _ main_v27 (by decide))).trans (dec_nums V)

theorem take_taken : takeS V (main_v28 : DevRef τ sig) = takenR V :=
  mat_ext fun r l => (take_read (pickS V) (numsR V) (pick_nums V) r (numR V r) rfl l).trans
    (by rw [(pickS_args V).par]; rfl)
theorem nll_taken : nllS V (main_v28 : DevRef τ sig) = takenR V :=
  (((nll_of _ main_v28 (by decide)).trans (dyn_of _ main_v28 (by decide))).trans (dec_of _ main_v28 (by decide))).trans
    (take_taken V)

theorem dec_decoded : decS V (main_v44 : DevRef τ sig) = decR V :=
  mat_ext fun r l => (dec_read (takeS V) (codesR V) (takenR V) (take_codes V) (take_taken V) r l).trans
    (by rw [(takeS_args V).par]; rfl)
theorem nll_decoded : nllS V (main_v44 : DevRef τ sig) = decR V :=
  ((nll_of _ main_v44 (by decide)).trans (dyn_of _ main_v44 (by decide))).trans (dec_decoded V)

theorem dyn_means : dynS V (main_v67 : DevRef τ sig) = meanR V :=
  mat_ext fun r l => (dyn_read (decS V) (numsR V) (dec_nums V) r (numR V r) rfl l).trans
    (by rw [(decS_args V).par, (decS_args V).xs]; rfl)

theorem nll_nlls : nllS V (main_v87 : DevRef τ sig) = nllR V :=
  arr_ext fun r => (nll_read (dynS V) (meanR V) (dyn_means V) r).trans
    (by rw [(dynS_args V).par, (dynS_args V).acts]; rfl)
theorem vq_nlls : vqS V (main_v87 : DevRef τ sig) = nllR V := (vq_of _ main_v87 (by decide)).trans (nll_nlls V)
theorem loss_nlls : lossS V (main_v87 : DevRef τ sig) = nllR V := (loss_of _ main_v87 (by decide)).trans (vq_nlls V)

theorem vq_scale : vqS V (main_v102 : DevRef τ sig) = (fun _ => scaleR V : FVec Ideal S_ .f32) := by
  funext i
  obtain rfl : i = ix0 := funext fun a : Fin 0 => a.elim0
  exact (vq_read (nllS V) _ _ _ (nll_codes V) (nll_taken V) (nll_decoded V)).trans (by rw [(nllS_args V).dxs]; rfl)
theorem loss_scale : lossS V (main_v102 : DevRef τ sig) = (fun _ => scaleR V : FVec Ideal S_ .f32) :=
  (loss_of _ main_v102 (by decide)).trans (vq_scale V)

theorem loss_losses : lossS V (main_v105 : DevRef τ sig) = (fun i => nllR V i * scaleR V : Arr 16384) :=
  arr_ext fun r => loss_read (vqS V) _ _ (vq_nlls V) (vq_scale V) r

/-! ### With real weights, in the kernel's form -/

variable {V} (h : (par V).Real)
include h

theorem numR_eq (r : Fin 16384) : numR V r = code (par V) (row (dxs V) r) := codeR_eq h _

theorem nllR_eq (r : Fin 16384) : nllR V (ix1 r)
    = nllK (par V) (dev (par V) (row (xs V) r) (row (dxs V) r) (row (acts V) r)) := by
  refine (nll_eq h _).trans (congrArg (nllK (par V)) (funext fun j => ?_))
  show acts V (ix2 r j) - dynTail (par V) (dynHead (par V) (row (xs V) r) (numR V r)) j = _
  rw [numR_eq h]
  rfl

theorem scaleR_eq : scaleR V
    = Ideal.div (∑ r, sqDist (row (dxs V) r) (decode (par V) (quant (par V) (row (dxs V) r)))) ((4194304 : ℝ) : EReal)
      + Ideal.div (∑ r, sqDist (enc (par V) (row (dxs V) r)) (quant (par V) (row (dxs V) r))) ((4194304 : ℝ) : EReal)
      + Ideal.div (∑ r, sqDist (enc (par V) (row (dxs V) r)) (quant (par V) (row (dxs V) r))) ((4194304 : ℝ) : EReal) := by
  have hd : ∀ r, row (decR V) r = decode (par V) (quant (par V) (row (dxs V) r)) := fun r => by
    rw [← through_eq h]
    rfl
  have ht : ∀ r, row (takenR V) r = quant (par V) (row (dxs V) r) := fun r => by
    funext k
    show (par V).emb (ix2 (numR V r) k) = _
    rw [numR_eq h]
    rfl
  have he : ∀ r, row (codesR V) r = enc (par V) (row (dxs V) r) := fun r => rfl
  simp only [scaleR, hd, ht, he]

end Cert.Memo.Ref
-- ==== Proof.Agree.lean ====
/-
  The two programs' results are the same: from the same arguments, with the weights real that the precondition names, each
  result of the kernel is the reference's.
-/
module

public import proofs.«01_k».proof.Proof.KernelVal
public import proofs.«01_k».proof.Proof.RefResults

@[expose] public section

noncomputable section

open Idealize.ShloMosaic Idealize.ShloMosaic.TcCoe Idealize.ShloMosaic.StableHlo Idealize.SL.Sem

namespace Cert.Memo

variable (m : (ℓ : Loc Cert.KernelIdeal.nD Cert.KernelIdeal.τ Cert.KernelIdeal.sig) → Buf (Elt Ideal) ℓ)
variable (ρ : Dev Cert.KernelIdeal.nD → PrngReg) (c : Dev Cert.KernelIdeal.nD)
variable (V : Valuation Cert.ReferenceIdeal.τ Cert.ReferenceIdeal.sig (Elt Ideal))

/-- The reference's contents `V` hold the kernel's arguments. -/
structure Agree : Prop where
  par : Ref.par V = par m c
  xs : Ref.xs V = xs m c
  dxs : Ref.dxs V = dxs m c
  acts : Ref.acts V = acts m c

variable {m c V} (ha : Agree m c V) (hr : (par m c).Real)
include ha hr

/-- The negative log-likelihoods agree. -/
theorem nll_agree (r : Fin 16384) : Ref.nllR V (ix1 r) = rowNll m c r := by
  rw [Ref.nllR_eq (ha.par ▸ hr), ha.par, ha.xs, ha.dxs, ha.acts]
  rfl
/-- The codes agree. -/
theorem code_agree (r : Fin 16384) : Ref.numR V r = rowCode m c r := by
  rw [Ref.numR_eq (ha.par ▸ hr), ha.par, ha.dxs]
  rfl
/-- The scales agree. -/
theorem scale_agree : Ref.scaleR V = scaleK m c := by
  rw [Ref.scaleR_eq (ha.par ▸ hr), ha.par, ha.dxs]
  exact scale_eq (f := rowErr m c) (e := rowGap m c) (fun _ => sqDist_nonneg _ _) (fun _ => sqDist_nonneg _ _) place
    fun _ _ => rfl

open Cert.KernelIdeal Cert.KernelIdeal.Gen

/-- Result 1 agrees. -/
theorem agree_loss : (Ref.lossS V (Cert.ReferenceIdeal.main_v105 : DevRef Cert.ReferenceIdeal.τ Cert.ReferenceIdeal.sig) : Arr 16384)
    = W5 m ρ c (main_v7 : DevRef τ sig) := by
  rw [Ref.loss_losses]
  refine Ref.arr_ext fun r => ?_
  rw [nll_agree ha hr, scale_agree ha hr]
  exact (result_loss m ρ c r).symm
/-- Result 2 agrees. -/
theorem agree_nll : (Ref.lossS V (Cert.ReferenceIdeal.main_v87 : DevRef Cert.ReferenceIdeal.τ Cert.ReferenceIdeal.sig) : Arr 16384)
    = W5 m ρ c (main_v8 : DevRef τ sig) := by
  rw [Ref.loss_nlls]
  exact Ref.arr_ext fun r => (nll_agree ha hr r).trans (result_nll m ρ c r).symm
omit hr in
/-- Result 3 agrees. -/
theorem agree_x : (Ref.lossS V (Cert.ReferenceIdeal.main_arg0 : DevRef Cert.ReferenceIdeal.τ Cert.ReferenceIdeal.sig) : Mat 16384 256)
    = W5 m ρ c (main_v4_4 : DevRef τ sig) :=
  ((Ref.lossS_args V).xs.trans ha.xs).trans (result_x m ρ c).symm
/-- Result 4 agrees. -/
theorem agree_code : (Ref.lossS V (Cert.ReferenceIdeal.main_v27 : DevRef Cert.ReferenceIdeal.τ Cert.ReferenceIdeal.sig) : IVec S16384 32)
    = W5 m ρ c (main_v9 : DevRef τ sig) := by
  rw [Ref.loss_nums]
  exact Ref.arr_ext fun r => (congrArg (fun k : Fin 10 => BitVec.ofNat 32 k) (code_agree ha hr r)).trans
    (result_code m ρ c r).symm
/-- Result 5 agrees. -/
theorem agree_scale : (Ref.lossS V (Cert.ReferenceIdeal.main_v102 : DevRef Cert.ReferenceIdeal.τ Cert.ReferenceIdeal.sig) : FVec Ideal S_ .f32)
    = W5 m ρ c (main_v11 : DevRef τ sig) := by
  rw [Ref.loss_scale]
  funext i
  obtain rfl : i = ix0 := funext fun a : Fin 0 => a.elim0
  exact (scale_agree ha hr).trans (result_scale m ρ c).symm

end Cert.Memo
-- ==== Proof.RefEnd.lean ====
/-
  The end of the reference's run: every buffer at what the last stage leaves, the arguments unchanged and no counter
  raised.
-/
module

public import proofs.«01_k».proof.Proof.RefChain

@[expose] public section

noncomputable section

namespace Cert.Memo.Ref

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- What a run ends in. -/
def Ends (s : MemSt nD τ sig (Elt Ideal)) : Prop :=
  ∀ (c : Dev nD) (b : Ref sig .tc), s.mem ((c.tc : Thread nD τ).loc b) = lossS (launchContents m c) (Proc.devRef .tc b)

/-- From any memory every execution ends so. -/
theorem run_end : θ_run defs (onTc (τ := τ) (main (F := Ideal))) ⟨m, fun _ => 0, ρ⟩ fun r => Ends m r.2 ∧ r.2.sem = fun _ => 0 :=
  θ_run_mono (run_main m ρ) fun r h =>
    ⟨fun c b => (h c b).trans (congrFun (after_ops (launchContents m c)) _), sem_eq_zero_of_no_sems rfl r.2⟩

/-- The arguments are unchanged. -/
theorem args_kept {s : MemSt nD τ sig (Elt Ideal)} (h : Ends m s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20)
    ∧ s.mem ((c.tc : Thread nD τ).loc main_arg21) = m ((c.tc : Thread nD τ).loc main_arg21)
    ∧ s.mem ((c.tc : Thread nD τ).loc main_arg22) = m ((c.tc : Thread nD τ).loc main_arg22)
    ∧ s.mem ((c.tc : Thread nD τ).loc main_arg23) = m ((c.tc : Thread nD τ).loc main_arg23)
    ∧ s.mem ((c.tc : Thread nD τ).loc main_arg24) = m ((c.tc : Thread nD τ).loc main_arg24)
    ∧ s.mem ((c.tc : Thread nD τ).loc main_arg25) = m ((c.tc : Thread nD τ).loc main_arg25)
    ∧ s.mem ((c.tc : Thread nD τ).loc main_arg26) = m ((c.tc : Thread nD τ).loc main_arg26) :=
  have k (a : Ref sig .tc) (ha : a ∈ argRefs) : s.mem ((c.tc : Thread nD τ).loc a) = m ((c.tc : Thread nD τ).loc a) :=
    (h c a).trans (lossS_args (launchContents m c) a ha)
  ⟨k main_arg0 (by decide), k main_arg1 (by decide), k main_arg2 (by decide), k main_arg3 (by decide), k
    main_arg4 (by decide), k main_arg5 (by decide), k main_arg6 (by decide), k main_arg7 (by decide), k
    main_arg8 (by decide), k main_arg9 (by decide), k main_arg10 (by decide), k main_arg11 (by decide), k
    main_arg12 (by decide), k main_arg13 (by decide), k main_arg14 (by decide), k main_arg15 (by decide), k
    main_arg16 (by decide), k main_arg17 (by decide), k main_arg18 (by decide), k main_arg19 (by decide), k
    main_arg20 (by decide), k main_arg21 (by decide), k main_arg22 (by decide), k main_arg23 (by decide), k
    main_arg24 (by decide), k main_arg25 (by decide), k main_arg26 (by decide)⟩

end Cert.Memo.Ref
-- ==== Proof.Pre.lean ====
/-
  What the precondition says: the weights of the encoder's last two layers and the log-deviations are real numbers.
-/
module

public import proofs.«01_k».proof.Defs
public import proofs.«01_k».proof.Proof.RowLaws
public import proofs.«01_k».proof.Proof.Consts
public import proofs.«01_k».proof.Proof.KernelBlocks

@[expose] public section

noncomputable section

open Idealize.ShloMosaic Idealize.ShloMosaic.TcCoe

namespace Cert.Memo

/-- The precondition's own side conditions. -/
theorem preFacts : Cert.Pre_finite.Facts where
  bcast_S_S256x512 := by decide
  bcast_S_S512 := by decide
  bcast_S_S512x256 := by decide
  bcast_S_S256 := by decide
  bcast_S_S64 := by decide

/-- An array that compares below plus infinity everywhere in absolute value is real everywhere. -/
theorem isReal_of_lt {S : Shape} (x : FVec Ideal S .f32) (h : (⟨0, ![]⟩ : Shape).BroadcastsInDim S (![] : Fin 0 → Fin S.rank))
    (hx : cmpf .olt (Host.absf x) (broadcastInDim S ![] h (constant (F := Ideal) ⟨0, ![]⟩ .f32 0x7F800000#32)) = fun _ => 1#1)
    (i : S.Idx) : IsReal (x i) := by
  have e := congrFun hx i
  refine isReal_of_abs_lt ?_
  have e' : BitVec.ofBool (decide (max (x i) (-(x i)) < Ideal.ofBits .f32 0x7F800000#32)) = 1#1 := e
  rw [word_top] at e'
  by_contra hn
  rw [decide_eq_false hn] at e'
  exact absurd e' (by decide)

/-- Under the precondition the weights named are real. -/
theorem real_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : (par m c).Real :=
  ⟨isReal_of_lt _ _ (h c).1, isReal_of_lt _ _ (h c).2.1, isReal_of_lt _ _ (h c).2.2.1, isReal_of_lt _ _ (h c).2.2.2.1,
    isReal_of_lt _ _ (h c).2.2.2.2⟩

end Cert.Memo
-- ==== Proof.lean ====
/-
  The proof of `Cert.Claim`: the three programs end with their arguments unchanged and every counter at zero; the named
  constant's value is what the printed constant rounds; and the kernel's five results are the reference's.
-/
module

public import proofs.«01_k».proof.Defs
public import proofs.«01_k».proof.Proof.Kernel.Run
public import proofs.«01_k».proof.Proof.KernelIdeal.Run
public import proofs.«01_k».proof.Proof.Agree
public import proofs.«01_k».proof.Proof.RefEnd
public import proofs.«01_k».proof.Proof.Pre

@[expose] public section

noncomputable section

namespace Cert.Proof

open Idealize.ShloMosaic Idealize.ShloMosaic.TcCoe Idealize.ShloMosaic.StableHlo Idealize.SL.Sem
open Cert.Memo

/-- The kernel as printed, over the machine's floats: its arguments are unchanged and its counters at zero. -/
theorem kernel_frame : Cert.quiescent_Kernel (hKernel := Cert.Kernel.Gen.facts) :=
  fun m g _ => Cert.Kernel.Gen.frame m g

/-- The kernel over the extended reals: the same. -/
theorem ideal_frame : Cert.quiescent_KernelIdeal (hKernelIdeal := Cert.KernelIdeal.Gen.facts) :=
  fun m g _ => Cert.KernelIdeal.Gen.frame m g

/-- The reference: the same. -/
theorem reference_frame : Cert.quiescent_ReferenceIdeal (hReferenceIdeal := Cert.ReferenceIdeal.Gen.facts) :=
  fun m g _ => θ_run_mono (Ref.run_end m g) fun _ h => ⟨Ref.args_kept m h.1, h.2⟩

/-- The kernel's five results are the reference's. -/
theorem results_agree : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  have agree (c : Dev Cert.KernelIdeal.nD) : Agree m c (launchContents m' c) := by
    obtain ⟨h0, h1, h2, h3, h4, h5, h6, h7, h8, h9, h10, h11, h12, h13, h14, h15, h16, h17, h18, h19, h20, h21, h22, h23, h24, h25, h26⟩ := hargs c
    exact ⟨by unfold Ref.par par; congr, h0, h1, h2⟩
  have real := real_of_pre m hpre
  refine ⟨fun c => Cert.KernelIdeal.Gen.W5 m g c (Cert.KernelIdeal.main_v7 : DevRef Cert.KernelIdeal.τ Cert.KernelIdeal.sig),
    fun c => Cert.KernelIdeal.Gen.W5 m g c (Cert.KernelIdeal.main_v8 : DevRef Cert.KernelIdeal.τ Cert.KernelIdeal.sig),
    fun c => Cert.KernelIdeal.Gen.W5 m g c (Cert.KernelIdeal.main_v4_4 : DevRef Cert.KernelIdeal.τ Cert.KernelIdeal.sig),
    fun c => Cert.KernelIdeal.Gen.W5 m g c (Cert.KernelIdeal.main_v9 : DevRef Cert.KernelIdeal.τ Cert.KernelIdeal.sig),
    fun c => Cert.KernelIdeal.Gen.W5 m g c (Cert.KernelIdeal.main_v11 : DevRef Cert.KernelIdeal.τ Cert.KernelIdeal.sig),
    θ_run_mono (Cert.KernelIdeal.Gen.run m g) fun r h c => ?_, θ_run_mono (Ref.run_end m' g') fun r h c => ?_⟩
  · have read (b : Ref Cert.KernelIdeal.sig .tc)
        (hb : ¬ (Proc.devRef .tc b : DevRef Cert.KernelIdeal.τ Cert.KernelIdeal.sig).isScoped) :=
      h.1 c _ (Cert.KernelIdeal.Gen.mem_uc b hb)
    exact ⟨read Cert.KernelIdeal.main_v7 (by decide), read Cert.KernelIdeal.main_v8 (by decide),
      read Cert.KernelIdeal.main_v4_4 (by decide), read Cert.KernelIdeal.main_v9 (by decide),
      read Cert.KernelIdeal.main_v11 (by decide), Cert.KernelIdeal.Gen.args_kept m g h.1 c⟩
  · exact ⟨(h.1 c _).trans (agree_loss g (agree c) (real c)), (h.1 c _).trans (agree_nll g (agree c) (real c)),
      (h.1 c _).trans (agree_x g (agree c)), (h.1 c _).trans (agree_code g (agree c) (real c)),
      (h.1 c _).trans (agree_scale g (agree c) (real c)), Ref.args_kept m' h.1 c⟩

/-- Everything this certificate claims. -/
theorem claim : Cert.Claim :=
  ⟨Cert.Kernel.Gen.facts, Cert.KernelIdeal.Gen.facts, Cert.ReferenceIdeal.Gen.facts, preFacts,
    kernel_frame, ideal_frame, fun m g _ => Cert.KernelIdeal.Gen.frame m g,
    reference_frame, fun m g _ => reference_frame m g trivial,
    IdealRules.named_const.statement Cert.KernelIdeal.κ "half_log_2pi_64" .f32 0x426B3F8E#32 _ rfl,
    results_agree⟩

end Cert.Proof

end
